-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .f32) (main_arg1 : FVec F S128x32 .f32) (main_arg2 : IVec S256x1 32) (main_arg3 : FVec F S2x128x256 .f32) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 32#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Pre_routed_ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .f32) (main_arg1 : FVec F S128x32 .f32) (main_arg2 : IVec S256x1 32) (main_arg3 : FVec F S32x128x256 .f32) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 32#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S256x256 : Shape := ⟨2, ![256, 256]⟩
abbrev S16 : Shape := ⟨1, ![16]⟩
abbrev S_ : Shape := ⟨0, ![]⟩
abbrev S256x32 : Shape := ⟨2, ![256, 32]⟩
abbrev S256 : Shape := ⟨1, ![256]⟩
abbrev S256x16 : Shape := ⟨2, ![256, 16]⟩
abbrev S16x128 : Shape := ⟨2, ![16, 128]⟩
abbrev S1x128x256 : Shape := ⟨3, ![1, 128, 256]⟩
abbrev S128x256 : Shape := ⟨2, ![128, 256]⟩
abbrev S16x256 : Shape := ⟨2, ![16, 256]⟩
abbrev S16x1 : Shape := ⟨2, ![16, 1]⟩
abbrev S1 : Shape := ⟨1, ![1]⟩

abbrev nBuf : Space → Nat
  | .hbm => 5
  | .vmem => 5
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S256x256, .f32⟩
  | .local _ .vmem, ⟨4, _⟩ => ⟨S256x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4 : BitVec 32 := 1#32
  let v7 : BitVec 32 := Scalar.muli v6 c1_i32_4
  let v8 : BitVec 32 := Scalar.addi c0_i32 v7
  v8.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v9 : BitVec 32 := Scalar.addi v2 c2_i32
  let c16_i32_5 : BitVec 32 := 16#32
  let v10 : BitVec 32 := Scalar.remsi v9 c16_i32_5
  let c1_i32_7 : BitVec 32 := 1#32
  let v11 : BitVec 32 := Scalar.muli v10 c1_i32_7
  let v12 : BitVec 32 := Scalar.addi c0_i32_8 v11
  v12.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c16_i32_9 : BitVec 32 := 16#32
  let v14 : BitVec 32 := Scalar.remsi v13 c16_i32_9
  let c1_i32_11 : BitVec 32 := 1#32
  let v15 : BitVec 32 := Scalar.muli v14 c1_i32_11
  let v16 : BitVec 32 := Scalar.addi c0_i32_12 v15
  v16.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v17 : BitVec 32 := Scalar.addi v2 c4_i32
  let c16_i32_13 : BitVec 32 := 16#32
  let v18 : BitVec 32 := Scalar.remsi v17 c16_i32_13
  let c1_i32_15 : BitVec 32 := 1#32
  let v19 : BitVec 32 := Scalar.muli v18 c1_i32_15
  let v20 : BitVec 32 := Scalar.addi c0_i32_16 v19
  v20.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v21 : BitVec 32 := Scalar.addi v2 c5_i32
  let c16_i32_17 : BitVec 32 := 16#32
  let v22 : BitVec 32 := Scalar.remsi v21 c16_i32_17
  let c1_i32_19 : BitVec 32 := 1#32
  let v23 : BitVec 32 := Scalar.muli v22 c1_i32_19
  let v24 : BitVec 32 := Scalar.addi c0_i32_20 v23
  v24.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v25 : BitVec 32 := Scalar.addi v2 c6_i32
  let c16_i32_21 : BitVec 32 := 16#32
  let v26 : BitVec 32 := Scalar.remsi v25 c16_i32_21
  let c1_i32_23 : BitVec 32 := 1#32
  let v27 : BitVec 32 := Scalar.muli v26 c1_i32_23
  let v28 : BitVec 32 := Scalar.addi c0_i32_24 v27
  v28.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v29 : BitVec 32 := Scalar.addi v2 c7_i32
  let c16_i32_25 : BitVec 32 := 16#32
  let v30 : BitVec 32 := Scalar.remsi v29 c16_i32_25
  let c1_i32_27 : BitVec 32 := 1#32
  let v31 : BitVec 32 := Scalar.muli v30 c1_i32_27
  let v32 : BitVec 32 := Scalar.addi c0_i32_28 v31
  v32.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_29 : BitVec 32 := 16#32
  let v34 : BitVec 32 := Scalar.remsi v33 c16_i32_29
  let c1_i32_31 : BitVec 32 := 1#32
  let v35 : BitVec 32 := Scalar.muli v34 c1_i32_31
  let v36 : BitVec 32 := Scalar.addi c0_i32_32 v35
  v36.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v37 : BitVec 32 := Scalar.addi v2 c9_i32
  let c16_i32_33 : BitVec 32 := 16#32
  let v38 : BitVec 32 := Scalar.remsi v37 c16_i32_33
  let c1_i32_35 : BitVec 32 := 1#32
  let v39 : BitVec 32 := Scalar.muli v38 c1_i32_35
  let v40 : BitVec 32 := Scalar.addi c0_i32_36 v39
  v40.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v41 : BitVec 32 := Scalar.addi v2 c10_i32
  let c16_i32_37 : BitVec 32 := 16#32
  let v42 : BitVec 32 := Scalar.remsi v41 c16_i32_37
  let c1_i32_39 : BitVec 32 := 1#32
  let v43 : BitVec 32 := Scalar.muli v42 c1_i32_39
  let v44 : BitVec 32 := Scalar.addi c0_i32_40 v43
  v44.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v45 : BitVec 32 := Scalar.addi v2 c11_i32
  let c16_i32_41 : BitVec 32 := 16#32
  let v46 : BitVec 32 := Scalar.remsi v45 c16_i32_41
  let c1_i32_43 : BitVec 32 := 1#32
  let v47 : BitVec 32 := Scalar.muli v46 c1_i32_43
  let v48 : BitVec 32 := Scalar.addi c0_i32_44 v47
  v48.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v49 : BitVec 32 := Scalar.addi v2 c12_i32
  let c16_i32_45 : BitVec 32 := 16#32
  let v50 : BitVec 32 := Scalar.remsi v49 c16_i32_45
  let c1_i32_47 : BitVec 32 := 1#32
  let v51 : BitVec 32 := Scalar.muli v50 c1_i32_47
  let v52 : BitVec 32 := Scalar.addi c0_i32_48 v51
  v52.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v53 : BitVec 32 := Scalar.addi v2 c13_i32
  let c16_i32_49 : BitVec 32 := 16#32
  let v54 : BitVec 32 := Scalar.remsi v53 c16_i32_49
  let c1_i32_51 : BitVec 32 := 1#32
  let v55 : BitVec 32 := Scalar.muli v54 c1_i32_51
  let v56 : BitVec 32 := Scalar.addi c0_i32_52 v55
  v56.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v57 : BitVec 32 := Scalar.addi v2 c14_i32
  let c16_i32_53 : BitVec 32 := 16#32
  let v58 : BitVec 32 := Scalar.remsi v57 c16_i32_53
  let c1_i32_55 : BitVec 32 := 1#32
  let v59 : BitVec 32 := Scalar.muli v58 c1_i32_55
  let v60 : BitVec 32 := Scalar.addi c0_i32_56 v59
  v60.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v61 : BitVec 32 := Scalar.addi v2 c15_i32
  let c16_i32_57 : BitVec 32 := 16#32
  let v62 : BitVec 32 := Scalar.remsi v61 c16_i32_57
  let c1_i32_59 : BitVec 32 := 1#32
  let v63 : BitVec 32 := Scalar.muli v62 c1_i32_59
  let v64 : BitVec 32 := Scalar.addi c0_i32_60 v63
  v64.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.muli v2 c16_i32_0
  let v121 : Index := Scalar.indexCast v3
  let c0_79 : Index := 0#32
  ![v121.toNat, 0]
def k0_off2 (d0 : Dev nD) (c1_i32_81 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v125 : BitVec 32 := Scalar.addi v2 c1_i32_81
  let c16_i32_82 : BitVec 32 := 16#32
  let v126 : BitVec 32 := Scalar.remsi v125 c16_i32_82
  ![v126.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.muli v2 c16_i32_0
  let c0_i32_85 : BitVec 32 := 0#32
  ![v3.toNat, 0]
def k0_dev16 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_81 : BitVec 32 := 1#32
  let v125 : BitVec 32 := Scalar.addi v2 c1_i32_81
  let c16_i32_82 : BitVec 32 := 16#32
  let v126 : BitVec 32 := Scalar.remsi v125 c16_i32_82
  let c1_i32_83 : BitVec 32 := 1#32
  let v127 : BitVec 32 := Scalar.muli v126 c1_i32_83
  let v128 : BitVec 32 := Scalar.addi c0_i32_84 v127
  v128.toNat
def k0_dev17 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v135 : BitVec 32 := Scalar.addi v2 c2_i32_87
  let c16_i32_88 : BitVec 32 := 16#32
  let v136 : BitVec 32 := Scalar.remsi v135 c16_i32_88
  let c1_i32_89 : BitVec 32 := 1#32
  let v137 : BitVec 32 := Scalar.muli v136 c1_i32_89
  let v138 : BitVec 32 := Scalar.addi c0_i32_90 v137
  v138.toNat
def k0_dev18 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_93 : BitVec 32 := 3#32
  let v145 : BitVec 32 := Scalar.addi v2 c3_i32_93
  let c16_i32_94 : BitVec 32 := 16#32
  let v146 : BitVec 32 := Scalar.remsi v145 c16_i32_94
  let c1_i32_95 : BitVec 32 := 1#32
  let v147 : BitVec 32 := Scalar.muli v146 c1_i32_95
  let v148 : BitVec 32 := Scalar.addi c0_i32_96 v147
  v148.toNat
def k0_dev19 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_99 : BitVec 32 := 4#32
  let v155 : BitVec 32 := Scalar.addi v2 c4_i32_99
  let c16_i32_100 : BitVec 32 := 16#32
  let v156 : BitVec 32 := Scalar.remsi v155 c16_i32_100
  let c1_i32_101 : BitVec 32 := 1#32
  let v157 : BitVec 32 := Scalar.muli v156 c1_i32_101
  let v158 : BitVec 32 := Scalar.addi c0_i32_102 v157
  v158.toNat
def k0_dev20 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_105 : BitVec 32 := 5#32
  let v165 : BitVec 32 := Scalar.addi v2 c5_i32_105
  let c16_i32_106 : BitVec 32 := 16#32
  let v166 : BitVec 32 := Scalar.remsi v165 c16_i32_106
  let c1_i32_107 : BitVec 32 := 1#32
  let v167 : BitVec 32 := Scalar.muli v166 c1_i32_107
  let v168 : BitVec 32 := Scalar.addi c0_i32_108 v167
  v168.toNat
def k0_dev21 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_111 : BitVec 32 := 6#32
  let v175 : BitVec 32 := Scalar.addi v2 c6_i32_111
  let c16_i32_112 : BitVec 32 := 16#32
  let v176 : BitVec 32 := Scalar.remsi v175 c16_i32_112
  let c1_i32_113 : BitVec 32 := 1#32
  let v177 : BitVec 32 := Scalar.muli v176 c1_i32_113
  let v178 : BitVec 32 := Scalar.addi c0_i32_114 v177
  v178.toNat
def k0_dev22 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_117 : BitVec 32 := 7#32
  let v185 : BitVec 32 := Scalar.addi v2 c7_i32_117
  let c16_i32_118 : BitVec 32 := 16#32
  let v186 : BitVec 32 := Scalar.remsi v185 c16_i32_118
  let c1_i32_119 : BitVec 32 := 1#32
  let v187 : BitVec 32 := Scalar.muli v186 c1_i32_119
  let v188 : BitVec 32 := Scalar.addi c0_i32_120 v187
  v188.toNat
def k0_dev23 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_123 : BitVec 32 := 8#32
  let v195 : BitVec 32 := Scalar.addi v2 c8_i32_123
  let c16_i32_124 : BitVec 32 := 16#32
  let v196 : BitVec 32 := Scalar.remsi v195 c16_i32_124
  let c1_i32_125 : BitVec 32 := 1#32
  let v197 : BitVec 32 := Scalar.muli v196 c1_i32_125
  let v198 : BitVec 32 := Scalar.addi c0_i32_126 v197
  v198.toNat
def k0_dev24 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_129 : BitVec 32 := 9#32
  let v205 : BitVec 32 := Scalar.addi v2 c9_i32_129
  let c16_i32_130 : BitVec 32 := 16#32
  let v206 : BitVec 32 := Scalar.remsi v205 c16_i32_130
  let c1_i32_131 : BitVec 32 := 1#32
  let v207 : BitVec 32 := Scalar.muli v206 c1_i32_131
  let v208 : BitVec 32 := Scalar.addi c0_i32_132 v207
  v208.toNat
def k0_dev25 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_135 : BitVec 32 := 10#32
  let v215 : BitVec 32 := Scalar.addi v2 c10_i32_135
  let c16_i32_136 : BitVec 32 := 16#32
  let v216 : BitVec 32 := Scalar.remsi v215 c16_i32_136
  let c1_i32_137 : BitVec 32 := 1#32
  let v217 : BitVec 32 := Scalar.muli v216 c1_i32_137
  let v218 : BitVec 32 := Scalar.addi c0_i32_138 v217
  v218.toNat
def k0_dev26 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_141 : BitVec 32 := 11#32
  let v225 : BitVec 32 := Scalar.addi v2 c11_i32_141
  let c16_i32_142 : BitVec 32 := 16#32
  let v226 : BitVec 32 := Scalar.remsi v225 c16_i32_142
  let c1_i32_143 : BitVec 32 := 1#32
  let v227 : BitVec 32 := Scalar.muli v226 c1_i32_143
  let v228 : BitVec 32 := Scalar.addi c0_i32_144 v227
  v228.toNat
def k0_dev27 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_147 : BitVec 32 := 12#32
  let v235 : BitVec 32 := Scalar.addi v2 c12_i32_147
  let c16_i32_148 : BitVec 32 := 16#32
  let v236 : BitVec 32 := Scalar.remsi v235 c16_i32_148
  let c1_i32_149 : BitVec 32 := 1#32
  let v237 : BitVec 32 := Scalar.muli v236 c1_i32_149
  let v238 : BitVec 32 := Scalar.addi c0_i32_150 v237
  v238.toNat
def k0_dev28 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_153 : BitVec 32 := 13#32
  let v245 : BitVec 32 := Scalar.addi v2 c13_i32_153
  let c16_i32_154 : BitVec 32 := 16#32
  let v246 : BitVec 32 := Scalar.remsi v245 c16_i32_154
  let c1_i32_155 : BitVec 32 := 1#32
  let v247 : BitVec 32 := Scalar.muli v246 c1_i32_155
  let v248 : BitVec 32 := Scalar.addi c0_i32_156 v247
  v248.toNat
def k0_dev29 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_159 : BitVec 32 := 14#32
  let v255 : BitVec 32 := Scalar.addi v2 c14_i32_159
  let c16_i32_160 : BitVec 32 := 16#32
  let v256 : BitVec 32 := Scalar.remsi v255 c16_i32_160
  let c1_i32_161 : BitVec 32 := 1#32
  let v257 : BitVec 32 := Scalar.muli v256 c1_i32_161
  let v258 : BitVec 32 := Scalar.addi c0_i32_162 v257
  v258.toNat
def k0_dev30 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_165 : BitVec 32 := 15#32
  let v265 : BitVec 32 := Scalar.addi v2 c15_i32_165
  let c16_i32_166 : BitVec 32 := 16#32
  let v266 : BitVec 32 := Scalar.remsi v265 c16_i32_166
  let c1_i32_167 : BitVec 32 := 1#32
  let v267 : BitVec 32 := Scalar.muli v266 c1_i32_167
  let v268 : BitVec 32 := Scalar.addi c0_i32_168 v267
  v268.toNat
def k0_off5 (d0 : Dev nD) (c1_i32_184 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_183 : BitVec 32 := 16#32
  let v317 : BitVec 32 := Scalar.addi v2 c16_i32_183
  let v318 : BitVec 32 := Scalar.subi v317 c1_i32_184
  let c16_i32_185 : BitVec 32 := 16#32
  let v319 : BitVec 32 := Scalar.remsi v318 c16_i32_185
  ![v319.toNat]
def k0_off6 (d0 : Dev nD) (c1_i32_184 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_183 : BitVec 32 := 16#32
  let v317 : BitVec 32 := Scalar.addi v2 c16_i32_183
  let v318 : BitVec 32 := Scalar.subi v317 c1_i32_184
  let c16_i32_185 : BitVec 32 := 16#32
  let v319 : BitVec 32 := Scalar.remsi v318 c16_i32_185
  let c16_i32_186 : BitVec 32 := 16#32
  let v320 : BitVec 32 := Scalar.muli v319 c16_i32_186
  let c0_i32_189 : BitVec 32 := 0#32
  ![v320.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S256x128x256 : Shape := ⟨3, ![256, 128, 256]⟩

abbrev nBuf : Space → Nat
  | .hbm => 39
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S32x128x256, .f32⟩
  | .hbm, ⟨4, _⟩ => ⟨S256, .i32⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S1x256, .i32⟩
  | .hbm, ⟨12, _⟩ => ⟨S256x1, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .i1⟩
  | .hbm, ⟨17, _⟩ => ⟨S256x256, .i32⟩
  | .hbm, ⟨18, _⟩ => ⟨S_, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256x128x256, .f32⟩
  | .hbm, ⟨29, _⟩ => ⟨S256x256, .f32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S256x1, .i1⟩
  | .hbm, ⟨34, _⟩ => ⟨S_, .f32⟩
  | .hbm, ⟨35, _⟩ => ⟨S_, .f32⟩
  | .hbm, ⟨36, _⟩ => ⟨S256x256, .i1⟩
  | .hbm, ⟨37, _⟩ => ⟨S256x256, .f32⟩
  | .hbm, ⟨38, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Proto.lean ====
/-
# The exchange between the sixteen devices, and the contents it moves

Every device holds one gather buffer of 256 rows, cut in sixteen windows of 16 rows. Device `c` fills window `c` of its own
buffer with the rows its two experts computed and copies that window to the same place on each of the fifteen other
devices. What stands between the devices is one barrier semaphore per device and two rows of sixteen DMA semaphores:

* BARRIER. Device `c` waits once, for 15. The device `k + 1` places further (`pk c k`, for `k = 0 … 14`) signals one unit,
  and hands over, with the unit, window `c` of ITS gather buffer at whatever it holds: after the wait `c` owns the place of
  each of its fifteen copies.
* RECEIVE `s` on `c` (`s ≠ c`). Device `s` copies onto it, once, one window's credit; what lands is window `s` of `c`'s
  gather buffer, holding the rows device `s` computed. `c` waits for it.
* SEND `t` on `c` (`t ≠ c`). `c`'s own copy to device `t` raises it when the source is free again; what comes back is the
  share of `c`'s own window the copy read.
* Receive `c` and send `c` on `c` itself are never touched.

Fifteen copies read one window at once, so the window's ownership is cut in fifteen shares and a remainder.

This module defines the cells, the windows and their contents, the schedule of the rounds with its tables, what each device
owes at launch, and the levels by which no wait can starve another.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's rounds and the exchange's, whose duties are numbered by `Fin 15` -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter at zero. -/
def s₀ : MemSt nD τ sig (Elt F) := ⟨m, fun _ => 0, ρ⟩

/-! ## The devices around the ring of sixteen -/

set_option backward.proofsInPublic true in
/-- The device `k + 1` places after `c`. -/
def pk (c : Dev nD) (k : Fin 16) : Dev nD := ⟨(c.val + (k.val + 1)) % 16, Nat.mod_lt _ (by decide)⟩
set_option backward.proofsInPublic true in
/-- The device `k + 1` places before `c`. -/
def bk (c : Dev nD) (k : Fin 16) : Dev nD := ⟨(c.val + (15 - k.val)) % 16, Nat.mod_lt _ (by decide)⟩

theorem val_lt (c : Dev nD) : c.val < 16 := c.isLt

theorem bk_pk (c : Dev nD) (k : Fin 16) : bk (pk c k) k = c := by
  refine Fin.ext ?_; have := val_lt c; have := k.isLt; simp only [bk, pk]; omega
theorem pk_bk (c : Dev nD) (k : Fin 16) : pk (bk c k) k = c := by
  refine Fin.ext ?_; have := val_lt c; have := k.isLt; simp only [bk, pk]; omega
theorem pk_inj (c : Dev nD) {k j : Fin 16} (h : pk c k = pk c j) : k = j := by
  have h := congrArg Fin.val h; have := val_lt c; have := k.isLt; have := j.isLt; simp only [pk] at h; exact Fin.ext (by omega)
theorem bk_inj (c : Dev nD) {k j : Fin 16} (h : bk c k = bk c j) : k = j := by
  have h := congrArg Fin.val h; have := val_lt c; have := k.isLt; have := j.isLt; simp only [bk] at h; exact Fin.ext (by omega)
theorem pk_last (c : Dev nD) : pk c (Fin.last 15) = c := by
  refine Fin.ext ?_; have := val_lt c; simp only [pk, Fin.val_last]; omega
theorem bk_last (c : Dev nD) : bk c (Fin.last 15) = c := by
  refine Fin.ext ?_; have := val_lt c; simp only [bk, Fin.val_last]; omega
theorem pk_ne (c : Dev nD) (k : Fin 15) : pk c k.castSucc ≠ c := fun h => by
  have h := congrArg Fin.val h; have := val_lt c; have := k.isLt; simp only [pk, Fin.val_castSucc] at h; omega
theorem bk_ne (c : Dev nD) (k : Fin 15) : bk c k.castSucc ≠ c := fun h => by
  have h := congrArg Fin.val h; have := val_lt c; have := k.isLt; simp only [bk, Fin.val_castSucc] at h; omega
/-- The device `k + 1` places before is the one `(14 - k) + 1` places after. -/
theorem bk_eq_pk_rev (c : Dev nD) (k : Fin 15) : bk c k.castSucc = pk c k.rev.castSucc := by
  refine Fin.ext ?_; have := val_lt c; have := k.isLt; simp only [pk, bk, Fin.val_castSucc, Fin.val_rev]; omega
theorem pk_pk_rev (c : Dev nD) (k : Fin 15) : pk (pk c k.castSucc) k.rev.castSucc = c := by
  rw [← bk_eq_pk_rev, bk_pk]

/-- Going `k + 1` places on is a permutation of the devices; -/
def turn (k : Fin 16) : Dev nD ≃ Dev nD := ⟨fun c => pk c k, fun c => bk c k, fun c => bk_pk c k, fun c => pk_bk c k⟩
/-- from `c`, the sixteen steps on reach every device once, -/
def around (c : Dev nD) : Fin 16 ≃ Fin 16 := Equiv.ofBijective (pk c) (Finite.injective_iff_bijective.mp fun _ _ h => pk_inj c h)
/-- and so do the sixteen steps back. -/
def aroundB (c : Dev nD) : Fin 16 ≃ Fin 16 := Equiv.ofBijective (bk c) (Finite.injective_iff_bijective.mp fun _ _ h => bk_inj c h)

/-! ## The buffers, the windows and the cells -/

abbrev xM : Memref sig .tc .vmem S256x128 .f32 := Memref.whole cc0_stg0_0
abbrev rM : Memref sig .tc .vmem S256x1 .i32 := Memref.whole cc0_stg1_0
abbrev wM : Memref sig .tc .vmem S2x128x256 .f32 := Memref.whole cc0_stg2_0
abbrev oM : Memref sig .tc .vmem S256x256 .f32 := Memref.whole cc0_stg3_0
abbrev gM : Memref sig .tc .vmem S256x256 .f32 := Memref.whole cc0_scratch0

/-- The corner of window `s`. -/
abbrev woff (s : Fin 16) : Fin 2 → ℕ := ![16 * s.val, 0]
theorem woff_inb (s : Fin 16) : ∀ a, woff s a + S16x256.size a ≤ S256x256.size a := by revert s; decide
/-- The 16 rows of window `s`. -/
abbrev wrect (s : Fin 16) : Rect S256x256 := Rect.unit (s := S256x256) (woff s) S16x256.size (woff_inb s)
abbrev winM (s : Fin 16) : Memref sig .tc .vmem S16x256 .f32 := gM.slice (wrect s) (fun _ => rfl)
abbrev win (s : Fin 16) : Finset (S256x256).Idx := (wrect s).set

theorem mem_win {s : Fin 16} {i : (S256x256).Idx} : i ∈ win s ↔ (i 0 : ℕ) / 16 = s.val := by
  rw [Rect.mem_set_unit, Fin.forall_fin_two]
  have h1 : (i 1 : ℕ) < 256 := (i 1).isLt
  show ((16 * s.val ≤ (i 0 : ℕ) ∧ (i 0 : ℕ) < 16 * s.val + 16) ∧ (0 ≤ (i 1 : ℕ) ∧ (i 1 : ℕ) < 0 + 256)) ↔ _
  omega

theorem win_disjoint (s t : Fin 16) (h : s ≠ t) : Disjoint (win s) (win t) :=
  Finset.disjoint_left.mpr fun i hs ht => h (Fin.ext ((mem_win.mp hs).symm.trans (mem_win.mp ht)))
theorem win_cover : Finset.univ.biUnion win = Finset.univ := by
  refine Finset.eq_univ_iff_forall.mpr fun i => Finset.mem_biUnion.mpr ?_
  have h0 : (i 0 : ℕ) < 256 := (i 0).isLt
  exact ⟨⟨(i 0 : ℕ) / 16, by omega⟩, Finset.mem_univ _, mem_win.mpr rfl⟩

abbrev barS : Sem sig := (SemArray.scalar (sig.barrier 0 rfl) : Sems sig S_).sem
abbrev sendS (j : Fin 16) : DmaSem sig := ⟨4 + j.val, by have := j.isLt; show 4 + j.val < 36; omega⟩
abbrev recvS (j : Fin 16) : DmaSem sig := ⟨20 + j.val, by have := j.isLt; show 20 + j.val < 36; omega⟩

/-- A device's cells in the exchange: the barrier (`none`), send `j` (`some (false, j)`), receive `j` (`some (true, j)`). -/
abbrev CIx : Type := Option (Bool × Fin 16)
abbrev osem : Bool × Fin 16 → SemLoc sig := fun p => if p.1 then .dma (recvS p.2) else .dma (sendS p.2)
abbrev csem : CIx → SemLoc sig := fun | none => .reg barS | some p => osem p
abbrev kcell (ck : Dev nD × CIx) : GSem nD τ sig := ((ck.1 : Thread nD τ), csem ck.2)

abbrev barCell (c : Dev nD) : GSem nD τ sig := ((c : Thread nD τ), .reg barS)
abbrev sendCell (c : Dev nD) (j : Fin 16) : GSem nD τ sig := ((c : Thread nD τ), .dma (sendS j))
abbrev recvCell (c : Dev nD) (j : Fin 16) : GSem nD τ sig := ((c : Thread nD τ), .dma (recvS j))

/-- Which cell of the exchange a semaphore is, if any. -/
def role : SemLoc sig → Option CIx
  | .reg _ => some none
  | .dma q => if h : 20 ≤ q.val then some (some (true, ⟨q.val - 20, by have : q.val < 36 := q.isLt; omega⟩))
      else if h' : 4 ≤ q.val then some (some (false, ⟨q.val - 4, by omega⟩)) else none

theorem role_bar : role (.reg barS) = some none := rfl
theorem role_send (j : Fin 16) : role (.dma (sendS j)) = some (some (false, j)) := by
  have := j.isLt
  dsimp only [role]; rw [dif_neg (by show ¬ 20 ≤ 4 + j.val; omega), dif_pos (by show 4 ≤ 4 + j.val; omega)]
  exact congrArg (fun j => some (some (false, j))) (Fin.ext (by show 4 + j.val - 4 = j.val; omega))
theorem role_recv (j : Fin 16) : role (.dma (recvS j)) = some (some (true, j)) := by
  dsimp only [role]; rw [dif_pos (by show 20 ≤ 20 + j.val; omega)]
  exact congrArg (fun j => some (some (true, j))) (Fin.ext (by show 20 + j.val - 20 = j.val; omega))
theorem role_csem (k : CIx) : role (csem k) = some k := by
  rcases k with _ | ⟨_ | _, j⟩
  · rfl
  · exact role_send j
  · exact role_recv j

/-- A window's credit: what a copy of one raises its two semaphores by. -/
abbrev N : ℕ := (winM 0).view.dmaCredit
theorem N_pos : 0 < N := View.dmaCredit_pos _ (by decide)

/-! ## The contents -/

/-- What the launch stages on device `c`: its `x`, its routing column, its two experts' weights. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- The device's place in the ring, as the kernel computes it. -/
def ringPos (c : Dev nD) : BitVec 32 := Scalar.remsi (Scalar.divsi (Dev.word c) 1#32) 16#32

abbrev er0 : LoadRect S2x128x256 := (Rect.unit (s := S2x128x256) ![0, 0, 0] S1x128x256.size inb_S2x128x256_S1x128x256_0_0_0).toLoadRect
abbrev er1 : LoadRect S2x128x256 := (Rect.unit (s := S2x128x256) ![1, 0, 0] S1x128x256.size inb_S2x128x256_S1x128x256_1_0_0).toLoadRect

/-- The 16 rows device `c` computes: its two experts' outputs for the tokens they accept. -/
def blob (c : Dev nD) : FVec F S16x256 .f32 :=
  k0_pay5 (k0_pay4 (ringPos c) (k0_pay1 (rstg m ρ c)) (k0_pay2 (F := F) (rstg m ρ c)) (xstg m ρ c)
    ((wM : Memref sig .tc .vmem S2x128x256 .f32).view.readAt (Elt F) er0 (wstg m ρ c))
    ((wM : Memref sig .tc .vmem S2x128x256 .f32).view.readAt (Elt F) er1 (wstg m ρ c)))

set_option backward.proofsInPublic true in
/-- Row `i` of the gathered buffer is row `i % 16` of device `i / 16`'s block. -/
def rowIn (i : (S256x256).Idx) : (S16x256).Idx := fun a => match a with
  | ⟨0, _⟩ => ⟨(i 0 : ℕ) % 16, Nat.mod_lt _ (by decide)⟩
  | ⟨1, _⟩ => i 1
set_option backward.proofsInPublic true in
def rowDev (i : (S256x256).Idx) : Dev nD := ⟨(i 0 : ℕ) / 16, by have h : (i 0 : ℕ) < 256 := (i 0).isLt; show (i 0 : ℕ) / 16 < 16; omega⟩

/-- The gather buffer once every window is in place: the same on every device. -/
def gath : (cc0_scratch0 : Ref sig .tc).ty.Contents (Elt F) := fun i : (S256x256).Idx => blob m ρ (rowDev i) (rowIn i)

/-- The place in the gather buffer of position `x` of window `s`. -/
theorem wrect_row (s : Fin 16) (x : (S16x256).Idx) : rowDev ((wrect s).emb x) = s ∧ rowIn ((wrect s).emb x) = x := by
  have h0 : (((wrect s).emb x) 0 : ℕ) = 16 * s.val + (x 0 : ℕ) := by
    show 16 * s.val + 1 * (x 0 : ℕ) = _; omega
  have h1 : (((wrect s).emb x) 1 : ℕ) = (x 1 : ℕ) := by
    show 0 + 1 * (x 1 : ℕ) = _; omega
  have hx : (x 0 : ℕ) < 16 := (x 0).isLt
  constructor
  · refine Fin.ext ?_; show (((wrect s).emb x) 0 : ℕ) / 16 = s.val; rw [h0]; omega
  · funext a
    match a with
    | ⟨0, _⟩ => refine Fin.ext ?_; show (((wrect s).emb x) 0 : ℕ) % 16 = (x 0 : ℕ); rw [h0]; omega
    | ⟨1, _⟩ => exact Fin.ext h1

/-- The gathered buffer read through window `s` is device `s`'s block, -/
theorem gath_win (s : Fin 16) (x : (S16x256).Idx) : gath m ρ ((wrect s).emb x) = blob m ρ s x := by
  unfold gath; obtain ⟨h1, h2⟩ := wrect_row s x; rw [h1, h2]

/-- Window `s` of device `c`'s gather buffer, at the share `q`. -/
def winPts (c : Dev nD) (s : Fin 16) (q : PosShare TreeShare) (f : Buf (Elt F) ((c : Thread nD τ).loc cc0_scratch0)) : sProp 𝕄 :=
  ((c : Thread nD τ).loc cc0_scratch0) ↦[win s]{q} f

omit [FloatOps F] in
instance winPts_storable (c : Dev nD) (s q f) : BI.Storable (upEmb : UEmb _ 𝕄) (winPts (F := F) c s q f) := by unfold winPts; infer_instance

omit [FloatOps F] in
theorem winPts_congr {c : Dev nD} {s : Fin 16} {q : PosShare TreeShare} {f g : Buf (Elt F) ((c : Thread nD τ).loc cc0_scratch0)}
    (h : ∀ x, f ((wrect s).emb x) = g ((wrect s).emb x)) : winPts c s q f = winPts c s q g := by
  unfold winPts
  refine pointsTo_congr fun i hi => ?_
  obtain ⟨x, -, rfl⟩ := Finset.mem_map.mp ((Rect.map_emb_univ (wrect s)).symm ▸ hi : i ∈ Finset.univ.map (wrect s).emb)
  exact h x

/-- Writing device `s`'s block through window `s` leaves the gathered contents there, whatever the buffer held. -/
theorem winPts_write (c : Dev nD) (s : Fin 16) (q : PosShare TreeShare) (f : Buf (Elt F) ((c : Thread nD τ).loc cc0_scratch0))
    (w : (S16x256).Idx → Elt F .f32) (hw : w = blob m ρ s) :
    winPts c s q ((winM s).view.write (Elt F) f w Finset.univ) = winPts c s q (gath m ρ) := by
  subst hw
  refine winPts_congr fun x => ?_
  rw [gath_win]
  exact View.write_emb_of_mem (Val := Elt F) (v := (winM s).view) f (blob m ρ s) (Finset.mem_univ x)

/-- Reading the gathered contents through window `s`. -/
theorem read_win (s : Fin 16) : (winM s).view.read (Elt F) (gath m ρ) = blob m ρ s := funext fun x => gath_win m ρ s x

/-! ## The schedule -/

/-- The share of a window its `k`-th copy reads, and what is left of it. -/
abbrev tokQ (k : Fin 15) : PosShare TreeShare := Transfers.shareTok fullShare 15 k
abbrev restQ : PosShare TreeShare := Transfers.shareDrop fullShare 15

/-- What a signal of duty `k` hands the barrier's device `c`: window `c` of the gather buffer of the device `k + 1` places on. -/
def barPay (c : Dev nD) (k : Fin 15) : sProp 𝕄 := iprop(∃ f, winPts (pk c k.castSucc) c fullShare f)
/-- What lands with device `s`'s copy on `c`: window `s` of `c`'s gather buffer, holding `s`'s block. -/
def recvPay (c : Dev nD) (s : Fin 16) : sProp 𝕄 := winPts c s fullShare (gath m ρ)
/-- The number of steps from `c` to another device `t`, less one. -/
def stepTo (c : Dev nD) (t : Fin 16) : Fin 16 := (around c).symm t
theorem stepTo_pk (c : Dev nD) (k : Fin 16) : stepTo c (pk c k) = k := (around c).symm_apply_apply k
/-- What a copy's own send cell hands back: the share of `c`'s own window it read. -/
def sendPay (c : Dev nD) (t : Fin 16) : sProp 𝕄 := winPts c c (Transfers.shareTokN fullShare (stepTo c t).val) (gath m ρ)

/-- One round, round 0, on each cell: a barrier has fifteen duties of a unit each; a send or receive cell that is not the
    device's own has the one duty `0` of a window's credit; the device's own two have none. -/
def sched : Rounds.Schedule (GSem nD τ sig) (Fin 15) 𝕄 where
  duties g r := if r = 0 ∧ g.1.2 = .tc then
      (match role g.2 with
        | some none => Finset.univ
        | some (some (_, j)) => if j = g.1.1 then ∅ else {0}
        | none => ∅)
    else ∅
  unitless _ := False
  amount g _ _ := match role g.2 with
    | some none => 1
    | _ => N
  payload g _ d := match role g.2 with
    | some none => barPay g.1.1 d
    | some (some (true, j)) => recvPay m ρ g.1.1 j
    | some (some (false, j)) => sendPay m ρ g.1.1 j
    | none => iprop(emp)
  amount_pos g _ _ _ := by
    split
    · exact Nat.one_pos
    · exact N_pos

instance sched_payload_storable (g : GSem nD τ sig) (r : ℕ) (d : Fin 15) :
    BI.Storable (upEmb : UEmb _ 𝕄) ((sched (F := F) m ρ).payload g r d) := by
  dsimp only [sched]
  unfold barPay recvPay sendPay
  split <;> infer_instance

section Tables
variable (c : Dev nD)

theorem duties_bar : (sched (F := F) m ρ).duties (barCell c) 0 = Finset.univ := by
  dsimp only [sched]; rw [if_pos ⟨rfl, rfl⟩, role_bar]
theorem duties_send {j : Fin 16} (h : j ≠ c) : (sched (F := F) m ρ).duties (sendCell c j) 0 = {0} := by
  dsimp only [sched]; rw [if_pos ⟨rfl, rfl⟩, role_send]; exact if_neg h
theorem duties_recv {j : Fin 16} (h : j ≠ c) : (sched (F := F) m ρ).duties (recvCell c j) 0 = {0} := by
  dsimp only [sched]; rw [if_pos ⟨rfl, rfl⟩, role_recv]; exact if_neg h
theorem duties_later (g : GSem nD τ sig) : ∀ r, 1 ≤ r → (sched (F := F) m ρ).duties g r = ∅ :=
  fun r hr => by dsimp only [sched]; exact if_neg fun h => by omega
/-- A device's own send and receive cells have no duty in any round. -/
theorem duties_own (b : Bool) : ∀ r, 0 ≤ r → (sched (F := F) m ρ).duties (kcell (c, some (b, c))) r = ∅ := fun r _ => by
  dsimp only [sched]; split
  · rw [role_csem]; exact if_pos rfl
  · rfl

theorem amount_bar (d : Fin 15) : (sched (F := F) m ρ).amount (barCell c) 0 d = 1 := by dsimp only [sched]; rw [role_bar]
theorem amount_send (j : Fin 16) (d : Fin 15) : (sched (F := F) m ρ).amount (sendCell c j) 0 d = N := by dsimp only [sched]; rw [role_send]
theorem amount_recv (j : Fin 16) (d : Fin 15) : (sched (F := F) m ρ).amount (recvCell c j) 0 d = N := by dsimp only [sched]; rw [role_recv]

theorem expect_bar : (sched (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send {j : Fin 16} (h : j ≠ c) : (sched (F := F) m ρ).expect (sendCell c j) 0 = N := by
  unfold Schedule.expect Schedule.amountOf; rw [duties_send m ρ c h, Finset.sum_singleton, amount_send]
theorem expect_recv {j : Fin 16} (h : j ≠ c) : (sched (F := F) m ρ).expect (recvCell c j) 0 = N := by
  unfold Schedule.expect Schedule.amountOf; rw [duties_recv m ρ c h, Finset.sum_singleton, amount_recv]

theorem payload_bar (d : Fin 15) : (sched (F := F) m ρ).payload (barCell c) 0 d = barPay c d := by dsimp only [sched]; rw [role_bar]
theorem payload_send (j : Fin 16) (d : Fin 15) : (sched (F := F) m ρ).payload (sendCell c j) 0 d = sendPay m ρ c j := by
  dsimp only [sched]; rw [role_send]
theorem payload_recv (j : Fin 16) (d : Fin 15) : (sched (F := F) m ρ).payload (recvCell c j) 0 d = recvPay m ρ c j := by
  dsimp only [sched]; rw [role_recv]

/-- All of a barrier's round: window `c` of each other device's gather buffer. -/
theorem rest_bar : bigSep ((sched (F := F) m ρ).duties (barCell c) 0 \ ∅) (fun d => (sched (F := F) m ρ).payload (barCell c) 0 d)
    = bigSep Finset.univ (barPay (F := F) c) := by
  rw [Finset.sdiff_empty, duties_bar]; exact BI.bigSep_congr fun d _ => payload_bar m ρ c d
theorem rest_send {j : Fin 16} (h : j ≠ c) :
    bigSep ((sched (F := F) m ρ).duties (sendCell c j) 0 \ ∅) (fun d => (sched (F := F) m ρ).payload (sendCell c j) 0 d) = sendPay m ρ c j := by
  rw [Finset.sdiff_empty, duties_send m ρ c h, bigSep_singleton, payload_send]
theorem rest_recv {j : Fin 16} (h : j ≠ c) :
    bigSep ((sched (F := F) m ρ).duties (recvCell c j) 0 \ ∅) (fun d => (sched (F := F) m ρ).payload (recvCell c j) 0 d) = recvPay m ρ c j := by
  rw [Finset.sdiff_empty, duties_recv m ρ c h, bigSep_singleton, payload_recv]

end Tables

/-! ## What each device owes, and the levels of the cells -/

/-- The signals from the `n`-th on: one unit on the barrier of each device they go to. -/
def oBar (c : Dev nD) (n : ℕ) : CellTallies nD τ sig Unit :=
  ∑ k : Fin 15 with n ≤ k.val, tallyAt (barCell (pk c k.castSucc)) () 1
/-- The copies from the `n`-th on: a window's credit on receive cell `c` of each device they go to. -/
def oRecv (c : Dev nD) (n : ℕ) : CellTallies nD τ sig Unit :=
  ∑ k : Fin 15 with n ≤ k.val, tallyAt (recvCell (pk c k.castSucc) c) () N
/-- What device `c` owes at launch: all its signals and all its copies' landings. -/
def O₀ (c : Dev nD) : CellTallies nD τ sig Unit := oBar c 0 + oRecv c 0

theorem filter_step (k : Fin 15) :
    (Finset.univ.filter fun j : Fin 15 => k.val ≤ j.val) = insert k (Finset.univ.filter fun j : Fin 15 => k.val + 1 ≤ j.val) := by
  ext j; simp only [Finset.mem_filter, Finset.mem_univ, true_and, Finset.mem_insert, Fin.ext_iff]; omega
theorem notMem_step (k : Fin 15) : k ∉ Finset.univ.filter fun j : Fin 15 => k.val + 1 ≤ j.val := by
  simp only [Finset.mem_filter, Finset.mem_univ, true_and]; omega
theorem filter_done : (Finset.univ.filter fun j : Fin 15 => 15 ≤ j.val) = ∅ :=
  Finset.filter_eq_empty_iff.mpr fun j _ => by have := j.isLt; omega
theorem filter_all : (Finset.univ.filter fun j : Fin 15 => 0 ≤ j.val) = Finset.univ :=
  Finset.filter_true_of_mem fun j _ => Nat.zero_le _

theorem oBar_step (c : Dev nD) (k : Fin 15) : oBar c k.val = oBar c (k.val + 1) + tallyAt (barCell (pk c k.castSucc)) () 1 := by
  unfold oBar; rw [filter_step, Finset.sum_insert (notMem_step k), add_comm]
theorem oRecv_step (c : Dev nD) (k : Fin 15) : oRecv c k.val = oRecv c (k.val + 1) + tallyAt (recvCell (pk c k.castSucc) c) () N := by
  unfold oRecv; rw [filter_step, Finset.sum_insert (notMem_step k), add_comm]
theorem oBar_done (c : Dev nD) : oBar c 15 = 0 := by unfold oBar; rw [filter_done, Finset.sum_empty]
theorem oRecv_done (c : Dev nD) : oRecv c 15 = 0 := by unfold oRecv; rw [filter_done, Finset.sum_empty]

/-- A positive tally of a sum of one-cell tallies is on one of the cells. -/
theorem sum_tally_pos {S : Finset (Fin 15)} {cell : Fin 15 → GSem nD τ sig} {n : ℕ} {g : GSem nD τ sig} {u : Unit}
    (h : 0 < (∑ k ∈ S, (tallyAt (cell k) () n : CellTallies nD τ sig Unit)) g u) : ∃ k, g = cell k := by
  rw [Finset.sum_apply, Finsupp.finsetSum_apply] at h
  obtain ⟨k, -, hk⟩ := Finset.exists_ne_zero_of_sum_ne_zero h.ne'
  refine ⟨k, ?_⟩
  rw [tallyAt_apply] at hk
  by_contra hn
  exact hk (if_neg fun h' => hn h'.1)

theorem oRecv_pos {c : Dev nD} {g : GSem nD τ sig} {u : Unit} {n : ℕ} (h : 0 < oRecv c n g u) : ∃ k : Fin 15, g = recvCell (pk c k.castSucc) c :=
  sum_tally_pos h
theorem O₀_pos {c : Dev nD} {g : GSem nD τ sig} {u : Unit} (h : 0 < O₀ c g u) :
    (∃ k : Fin 15, g = barCell (pk c k.castSucc)) ∨ ∃ k : Fin 15, g = recvCell (pk c k.castSucc) c := by
  unfold O₀ at h
  rw [Pi.add_apply, Finsupp.add_apply] at h
  rcases Nat.add_pos_iff_pos_or_pos.mp h with h | h
  · exact .inl (sum_tally_pos h)
  · exact .inr (sum_tally_pos h)

def L (g : GSem nD τ sig) : Finset Unit := if g.1.2 = .tc then {()} else ∅
/-- Barriers at 1, receive cells at 2, everything else (staging, send) at 0. -/
def lv (g : GSem nD τ sig) (_ : Unit) : ℕ := match role g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [role_bar]
theorem lv_recv (c : Dev nD) (j : Fin 16) : lv (recvCell c j) () = 2 := by dsimp only [lv]; rw [role_recv]

omit [FloatOps F] in
/-- A wait on a staging semaphore is below everything a device owes at launch. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  have hr : role (.dma q) = none := by dsimp only [role]; rw [dif_neg (by omega), dif_neg (by omega)]
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [hr])
      (fun g u hg => by
        rcases O₀_pos hg with ⟨k, rfl⟩ | ⟨k, rfl⟩
        · exact (lv_bar (pk c k.castSucc)).symm ▸ Nat.one_pos
        · exact (lv_recv (pk c k.castSucc) c).symm ▸ Nat.two_pos)
  · rw [MayWait_zero]; iintro -; iempintro

omit [FloatOps F] in
/-- At its barrier wait a device owes the landings of its copies only, and those are above its barrier. -/
theorem mayWait_bar (c : Dev nD) : (levAts L lv : sProp 𝕄) ⊢ MayWait (c : Thread nD τ) (.reg barS) () (oRecv c 0) :=
  MayOwe.of_cut (L := L) (lev := lv) 1 (fun p hp => by rw [Finset.mem_singleton.mp hp, L_tc]; exact Finset.mem_singleton_self _)
    (fun g u hg => by obtain ⟨k, rfl⟩ := oRecv_pos hg; exact Finset.mem_singleton_self _)
    (fun p hp => by rw [Finset.mem_singleton.mp hp]; exact (lv_bar c).le)
    (fun g u hg => by obtain ⟨k, rfl⟩ := oRecv_pos hg; exact (lv_recv (pk c k.castSucc) c).symm ▸ Nat.one_lt_two)

end Cert.KProof

end
-- ==== Proof.Steps.lean ====
/-
# One step of each kind, at a symbolic device and a symbolic place in its run

The kernel's body signals fifteen devices, copies to fifteen devices, waits for fifteen landings and for fifteen sources to
come free. Each of the four is stated and proved once, at device `c` and step `k`, as a rule that turns what is held before
the `k`-th step into what is held after it. What a device still holds for the steps from the `n`-th on is `fromK n`, what it
has gathered from the steps before the `n`-th is `upTo n`.
-/
module

public import proofs.«01_k».proof.Proof.Proto

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Families over the fifteen steps -/

/-- The family's members from the `n`-th on, -/
def fromK (n : ℕ) (Φ : Fin 15 → sProp 𝕄) : sProp 𝕄 := bigSep (Finset.univ.filter fun k : Fin 15 => n ≤ k.val) Φ
/-- and those before the `n`-th. -/
def upTo (n : ℕ) (Φ : Fin 15 → sProp 𝕄) : sProp 𝕄 := bigSep (Finset.univ.filter fun k : Fin 15 => k.val < n) Φ

omit [FloatOps F] in
theorem fromK_all (Φ : Fin 15 → sProp 𝕄) : fromK 0 Φ = bigSep Finset.univ Φ := by unfold fromK; rw [filter_all]
omit [FloatOps F] in
theorem fromK_step (k : Fin 15) (Φ : Fin 15 → sProp 𝕄) : fromK k.val Φ = iprop(Φ k ∗ fromK (k.val + 1) Φ) := by
  unfold fromK; rw [filter_step]; exact BI.bigSep_insert (notMem_step k)
omit [FloatOps F] in
theorem upTo_none (Φ : Fin 15 → sProp 𝕄) : upTo 0 Φ = iprop(emp) := by
  unfold upTo; rw [Finset.filter_eq_empty_iff.mpr fun j _ => Nat.not_lt_zero _]; exact BI.bigSep_empty
omit [FloatOps F] in
theorem upTo_step (k : Fin 15) (Φ : Fin 15 → sProp 𝕄) : upTo (k.val + 1) Φ = iprop(Φ k ∗ upTo k.val Φ) := by
  unfold upTo
  rw [show (Finset.univ.filter fun j : Fin 15 => j.val < k.val + 1) = insert k (Finset.univ.filter fun j : Fin 15 => j.val < k.val) by
    ext j; simp only [Finset.mem_filter, Finset.mem_univ, true_and, Finset.mem_insert, Fin.ext_iff]; omega]
  exact BI.bigSep_insert (by simp)
omit [FloatOps F] in
theorem upTo_all (Φ : Fin 15 → sProp 𝕄) : upTo 15 Φ = bigSep Finset.univ Φ := by
  unfold upTo; rw [Finset.filter_true_of_mem fun j _ => j.isLt]

/-! ## What every device knows: the invariants of all cells and that all cells have reached round 0 -/

def records (K : Dev nD × CIx → ℕ) : sProp 𝕄 :=
  iprop((bigSep Finset.univ fun ck : Dev nD × CIx => cellInv ER (sched m ρ) (K ck) (kcell ck))
    ∗ bigSep Finset.univ fun ck : Dev nD × CIx => reached ER (kcell ck) 0)

instance records_persistent (K : Dev nD × CIx → ℕ) : BI.Persistent (records m ρ K) := by unfold records; infer_instance

variable (K : Dev nD × CIx → ℕ)

theorem inv_of (ck : Dev nD × CIx) :
    (bigSep Finset.univ fun ck : Dev nD × CIx => (cellInv ER (sched m ρ) (K ck) (kcell ck) : sProp 𝕄)) ⊢ cellInv ER (sched m ρ) (K ck) (kcell ck) :=
  bigSep_elim (Finset.mem_univ ck)
omit [FloatOps F] in
theorem reached_of (ck : Dev nD × CIx) :
    (bigSep Finset.univ fun ck : Dev nD × CIx => (reached ER (kcell ck) 0 : sProp 𝕄)) ⊢ reached ER (kcell ck) 0 :=
  bigSep_elim (Finset.mem_univ ck)
theorem inv_at (ck : Dev nD × CIx) : records m ρ K ⊢ cellInv ER (sched m ρ) (K ck) (kcell ck) := by
  unfold records; iintro ⟨H, -⟩; iapply (inv_of m ρ K ck); iexact H
theorem reached_at (ck : Dev nD × CIx) : records m ρ K ⊢ reached ER (kcell ck) 0 := by
  unfold records; iintro ⟨-, H⟩; iapply (reached_of (F := F) ck); iexact H

/-- What device `c` owes, having performed some waits. -/
def owesW (c : Dev nD) (O : CellTallies nD τ sig Unit) : sProp 𝕄 := iprop(∃ W : Waits sig Unit, owes (c : Thread nD τ) O W)

/-! ## The signal -/

/-- What the `k`-th signal spends: the duty's token and the window handed over. -/
def sigRes (c : Dev nD) (k : Fin 15) : sProp 𝕄 :=
  iprop(dutyTok ER (barCell (pk c k.castSucc)) 0 k.rev ∗ ∃ f, winPts c (pk c k.castSucc) fullShare f)

/-- Before the `n`-th signal. -/
def sigSt (c : Dev nD) (n : ℕ) : sProp 𝕄 := iprop(owesW c (oBar c n + oRecv c 0) ∗ fromK n (sigRes c))

/-- The `k`-th signal hands the device `k + 1` places on its window of `c`'s gather buffer. -/
theorem sig_step {α : Type} {Q : α → sProp 𝕄} {kk : PUnit → Prog (TpuEff nD τ sig (Elt F) Λ₀ .tc) α} {R : sProp 𝕄}
    (c n : Dev nD) (k : Fin 15) (hn : n = pk c k.castSucc)
    (h : iprop(records m ρ K ∗ sigSt c (k.val + 1) ∗ R) ⊢ wp frame (wpE (defs₀ (F := F)) 𝒱₀ c none) Set.univ (kk ⟨⟩) Q) :
    iprop(records m ρ K ∗ sigSt c k.val ∗ R)
      ⊢ wp frame (wpE (defs₀ (F := F)) 𝒱₀ c none) Set.univ (.op (.semSignal (n : Thread nD τ) barS (1#32).toInt) kk) Q := by
  subst hn
  unfold sigSt owesW
  rw [fromK_step]
  unfold sigRes
  rw [oBar_step c k]
  iintro ⟨#HI, ⟨⟨%W, HO⟩, ⟨Htok, ⟨%f, Hw⟩⟩, Hrest⟩, HR⟩
  iapply (Rounds.wp_signal 𝒱₀ ER (sched m ρ) (c : Thread nD τ) none (dst := (pk c k.castSucc : Thread nD τ)) (κ := K (pk c k.castSucc, none))
      (d := k.rev) (by rw [duties_bar]; exact Finset.mem_univ _) ((amount_bar m ρ (pk c k.castSucc) k.rev).trans (by decide)) ()
      (oBar c (k.val + 1) + oRecv c 0) (add_right_comm _ _ _))
    $$ [HO Htok Hw]
  · isplitr; · iapply (inv_at m ρ K (pk c k.castSucc, none)); iexact HI
    isplitl [HO]; · iexact HO
    isplitl [Htok]; · iexact Htok
    isplitl [Hw]
    · rw [payload_bar]; unfold barPay; rw [pk_pk_rev]; iexists f; iexact Hw
    iapply (reached_at m ρ K (pk c k.castSucc, none)); iexact HI
  iintro HO
  iapply h
  isplitr; · iexact HI
  unfold sigSt owesW
  isplitr [HR]
  · isplitl [HO]; · iexists W; iexact HO
    iexact Hrest
  iexact HR

/-! ## The copy -/

/-- What the `k`-th copy spends: the share of its own window it reads, the place it lands in, and the tokens of the two
    duties it pays. -/
def sendRes (c : Dev nD) (k : Fin 15) : sProp 𝕄 :=
  iprop(winPts c c (tokQ k) (gath m ρ) ∗ barPay c k
    ∗ dutyTok ER (sendCell c (pk c k.castSucc)) 0 0 ∗ dutyTok ER (recvCell (pk c k.castSucc) c) 0 0)
/-- What it leaves: the credit to wait for its source. -/
def sendGot (c : Dev nD) (k : Fin 15) : sProp 𝕄 := cred (tallyAt (sendCell c (pk c k.castSucc)) () N)

/-- Before the `n`-th copy. -/
def sendSt (c : Dev nD) (n : ℕ) : sProp 𝕄 := iprop(owesW c (oRecv c n) ∗ fromK n (sendRes m ρ c) ∗ upTo n (sendGot (F := F) c))

/-- The semaphore the kernel takes out of a row of sixteen by slicing at `j` and dropping the axis is the row's `j`-th. -/
theorem sem_at (base : ℕ) (hb : base + S16.numel ≤ 36) (o : Fin 1 → ℕ) (j : Fin 16) (ho : o = ![j.val]) (hi : ∀ i, o i + S1.size i ≤ S16.size i) :
    ((((SemArray.consecutive base S16 hb : DmaSems sig S16).slice (Rect.unit (s := S16) o S1.size hi)).squeeze S_ squeezes_S1_S_).sem : ℕ) = base + j.val := by
  subst ho
  show base + (S16.rowMajor ((Rect.unit (s := S16) ![j.val] S1.size hi).emb _)).val = base + j.val
  rw [Shape.rowMajor_val_one]
  have h1 : ∀ y : (S1).Idx, (y 0 : ℕ) = 0 := fun y => Nat.lt_one_iff.mp (y 0).isLt
  show base + (j.val + 1 * _) = base + j.val
  rw [h1]; rfl

theorem send_at {o : Fin 1 → ℕ} {j : Fin 16} (ho : o = ![j.val]) {hi : ∀ i, o i + S1.size i ≤ S16.size i} :
    (((cc0_scratch1 : DmaSems sig S16).slice (Rect.unit (s := S16) o S1.size hi)).squeeze S_ squeezes_S1_S_).sem = sendS j :=
  Fin.ext (sem_at 4 _ o j ho hi)
theorem recv_at {o : Fin 1 → ℕ} {j : Fin 16} (ho : o = ![j.val]) {hi : ∀ i, o i + S1.size i ≤ S16.size i} :
    (((cc0_scratch2 : DmaSems sig S16).slice (Rect.unit (s := S16) o S1.size hi)).squeeze S_ squeezes_S1_S_).sem = recvS j :=
  Fin.ext (sem_at 20 _ o j ho hi)

omit [FloatOps F] in
/-- Window `s` of device `c`'s gather buffer, as the window's view names it. -/
theorem winPts_view (c : Dev nD) (s : Fin 16) (q : PosShare TreeShare) (f : Buf (Elt F) ((c : Thread nD τ).loc cc0_scratch0)) :
    winPts c s q f = ((winM s).view.loc (c : Thread nD τ) ↦[(winM s).view.set]{q} f : sProp 𝕄) := by
  unfold winPts; rw [show (winM s).view.set = win s from View.set_slice_whole _ _]

/-- The `k`-th copy sends `c`'s window to the device `k + 1` places on. -/
theorem send_step {α : Type} {Q : α → sProp 𝕄} {kk : PUnit → Prog (TpuEff nD τ sig (Elt F) Λ₀ .tc) α} {R : sProp 𝕄}
    (c n : Dev nD) (k : Fin 15) (hn : n = pk c k.castSucc) {o : Fin 2 → ℕ} (ho : o = woff c)
    {hb hb' : ∀ a, o a + S16x256.size a ≤ S256x256.size a} {sS sR : DmaSem sig} (hS : sS = sendS (pk c k.castSucc)) (hR : sR = recvS c)
    {hsc : ((gM : Memref sig (Dev.tc n : Thread nD τ).2.kind .vmem S256x256 .f32).slice (Rect.unit (s := S256x256) o S16x256.size hb') (fun _ => rfl)).view.ref.isScScratch = false}
    {hsrc : (gM.slice (Rect.unit (s := S256x256) o S16x256.size hb) (fun _ => rfl)).view.WordExact}
    {hdst : (gM.slice (Rect.unit (s := S256x256) o S16x256.size hb') (fun _ => rfl)).view.WordExact}
    {hsem : DmaTarget.Typed .vmem (.dma sR) (.remote (Dev.tc n : Thread nD τ) (gM.slice (Rect.unit (s := S256x256) o S16x256.size hb') (fun _ => rfl)) (.dma sS) hsc)}
    (h : iprop(records m ρ K ∗ sendSt m ρ c (k.val + 1) ∗ R) ⊢ wp frame (wpE (defs₀ (F := F)) 𝒱₀ c none) Set.univ (kk ⟨⟩) Q) :
    iprop(records m ρ K ∗ sendSt m ρ c k.val ∗ R)
      ⊢ wp frame (wpE (defs₀ (F := F)) 𝒱₀ c none) Set.univ
          (.op (.enqueueDma (gM.slice (Rect.unit (s := S256x256) o S16x256.size hb) (fun _ => rfl))
            (.remote (Dev.tc n : Thread nD τ) (gM.slice (Rect.unit (s := S256x256) o S16x256.size hb') (fun _ => rfl)) (.dma sS) hsc) (.dma sR) hsrc hdst hsem) kk) Q := by
  subst hn ho hS hR
  unfold sendSt owesW
  rw [fromK_step]
  unfold sendRes barPay
  rw [oRecv_step c k]
  iintro ⟨#HI, ⟨⟨%W, HO⟩, ⟨⟨Hw, ⟨%fd, Hd⟩, HtS, HtR⟩, Hrest⟩, Hgot⟩, HR⟩
  ihave Hw' := (Entails.of_eq (winPts_view c c (tokQ k) (gath m ρ))) $$ Hw
  ihave Hd' := (Entails.of_eq (winPts_view (pk c k.castSucc) c fullShare fd)) $$ Hd
  iapply (Rounds.wp_send_pointsTo 𝒱₀ ER (sched m ρ) (c : Thread nD τ) none (c' := (Dev.tc (pk c k.castSucc) : Thread nD τ))
      (src := winM c) (dst := winM c)
      (κ₁ := K (c, some (false, pk c k.castSucc))) (κ₂ := K (pk c k.castSucc, some (true, c)))
      (r₁ := 0) (r₂ := 0) (d₁ := 0) (d₂ := 0) (fs := gath m ρ) (fd := fd)
      (by rw [duties_send m ρ c (pk_ne c k)]; exact Finset.mem_singleton_self _)
      (by rw [duties_recv m ρ (pk c k.castSucc) (pk_ne c k).symm]; exact Finset.mem_singleton_self _)
      () () N rfl (amount_send m ρ c _ 0) (amount_recv m ρ (pk c k.castSucc) c 0) (oRecv c (k.val + 1)) rfl (W := W)
      (by rw [payload_send]; unfold sendPay; rw [stepTo_pk, ← winPts_view])
      (by rw [payload_recv, ← winPts_view, winPts_write m ρ _ _ _ _ _ (read_win m ρ c)]; exact BI.Entails.refl _))
    $$ [HO Hw' Hd' HtS HtR]
  · isplitr; · iapply (inv_at m ρ K (c, some (false, pk c k.castSucc))); iexact HI
    isplitr; · iapply (inv_at m ρ K (pk c k.castSucc, some (true, c))); iexact HI
    isplitl [Hw']; · iexact Hw'
    isplitl [Hd']; · iexact Hd'
    isplitl [HO]; · iexact HO
    isplitl [HtS]; · iexact HtS
    isplitr; · iapply (reached_at m ρ K (c, some (false, pk c k.castSucc))); iexact HI
    isplitl [HtR]; · iexact HtR
    iapply (reached_at m ρ K (pk c k.castSucc, some (true, c))); iexact HI
  iintro ⟨Hcr, HO⟩
  iapply h
  isplitr; · iexact HI
  unfold sendSt owesW
  isplitr [HR]
  · isplitl [HO]; · iexists W; iexact HO
    isplitl [Hrest]; · iexact Hrest
    rw [upTo_step]
    isplitl [Hcr]; · unfold sendGot; iexact Hcr
    iexact Hgot
  iexact HR

/-! ## The waits -/

/-- What the wait for a landing spends, -/
def recvRes (c : Dev nD) (k : Fin 15) : sProp 𝕄 :=
  iprop(cred (tallyAt (recvCell c (bk c k.castSucc)) () N) ∗ atPos ER (recvCell c (bk c k.castSucc)) 0 ∅ 0)
/-- and brings: the window of the device `k + 1` places before, in place. -/
def recvGot (c : Dev nD) (k : Fin 15) : sProp 𝕄 :=
  iprop(winPts c (bk c k.castSucc) fullShare (gath m ρ) ∗ atPos ER (recvCell c (bk c k.castSucc)) 1 ∅ 0)
/-- Before the `n`-th wait for a landing. -/
def recvSt (c : Dev nD) (n : ℕ) : sProp 𝕄 := iprop(owesW c 0 ∗ fromK n (recvRes (F := F) c) ∗ upTo n (recvGot m ρ c))

/-- What the wait for a source spends, -/
def freeRes (c : Dev nD) (k : Fin 15) : sProp 𝕄 :=
  iprop(sendGot c k ∗ atPos ER (sendCell c (pk c k.castSucc)) 0 ∅ 0)
/-- and brings: the share of `c`'s own window that copy read. -/
def freeGot (c : Dev nD) (k : Fin 15) : sProp 𝕄 :=
  iprop(winPts c c (tokQ k) (gath m ρ) ∗ atPos ER (sendCell c (pk c k.castSucc)) 1 ∅ 0)
/-- Before the `n`-th wait for a source. -/
def freeSt (c : Dev nD) (n : ℕ) : sProp 𝕄 := iprop(owesW c 0 ∗ fromK n (freeRes (F := F) c) ∗ upTo n (freeGot m ρ c))

/-- The `k`-th wait for a landing. -/
theorem recv_step {α : Type} {Q : α → sProp 𝕄} {kk : PUnit → Prog (TpuEff nD τ sig (Elt F) Λ₀ .tc) α} {R : sProp 𝕄}
    (c : Dev nD) (k : Fin 15) {o o' : Fin 2 → ℕ}
    {hb : ∀ a, o a + S16x256.size a ≤ S256x256.size a} {hb' : ∀ a, o' a + S16x256.size a ≤ S256x256.size a} {sR : DmaSem sig} (hR : sR = recvS (bk c k.castSucc))
    {hsrc : (gM.slice (Rect.unit (s := S256x256) o S16x256.size hb) (fun _ => rfl)).view.WordExact}
    {hdst : (gM.slice (Rect.unit (s := S256x256) o' S16x256.size hb') (fun _ => rfl)).view.WordExact}
    (h : iprop(records m ρ K ∗ recvSt m ρ c (k.val + 1) ∗ R) ⊢ wp frame (wpE (defs₀ (F := F)) 𝒱₀ c none) Set.univ (kk ⟨⟩) Q) :
    iprop(records m ρ K ∗ recvSt m ρ c k.val ∗ R)
      ⊢ wp frame (wpE (defs₀ (F := F)) 𝒱₀ c none) Set.univ
          (.op (.waitDma2 sR (gM.slice (Rect.unit (s := S256x256) o S16x256.size hb) (fun _ => rfl))
            (gM.slice (Rect.unit (s := S256x256) o' S16x256.size hb') (fun _ => rfl)) hsrc hdst) kk) Q := by
  subst hR
  unfold recvSt owesW
  rw [fromK_step]
  unfold recvRes
  iintro ⟨#HI, ⟨⟨%W, HO⟩, ⟨⟨Hcr, Hat⟩, Hrest⟩, Hgot⟩, HR⟩
  iapply (Rounds.wp_wait_rest_token 𝒱₀ ER (sched m ρ) (c : Thread nD τ) none (κ := K (c, some (true, bk c k.castSucc)))
      (wpE_waitDma2_eq (hsrc := hsrc) (hdst := hdst) 𝒱₀ (c : Thread nD τ) none Set.univ) (Set.mem_univ _) () (O := 0) (W := W) (R := 0) (m := 0) (T := ∅)
      (k' := N) (by rw [Nat.zero_add, expect_recv m ρ c (bk_ne c k)])) $$ [Hcr HO Hat]
  · isplitr; · iapply (inv_at m ρ K (c, some (true, bk c k.castSucc))); iexact HI
    isplitl [Hcr]; · iexact Hcr
    isplitl [HO]; · iexact HO
    isplitr; · rw [MayWait_zero]; iempintro
    iexact Hat
  iintro ⟨HO, Hat, -, Hpay⟩
  ihave Hp := (Entails.of_eq (rest_recv m ρ c (bk_ne c k))) $$ Hpay
  unfold recvPay
  iapply h
  isplitr; · iexact HI
  isplitr [HR]
  · unfold recvSt owesW
    rw [upTo_step]
    isplitl [HO]; · iexists (insert (SemLoc.dma (recvS (bk c k.castSucc)), ()) W); iexact HO
    isplitl [Hrest]; · iexact Hrest
    isplitr [Hgot]
    · unfold recvGot; isplitl [Hp]; · iexact Hp
      iexact Hat
    iexact Hgot
  iexact HR

/-- The `k`-th wait for a source. -/
theorem free_step {α : Type} {Q : α → sProp 𝕄} {kk : PUnit → Prog (TpuEff nD τ sig (Elt F) Λ₀ .tc) α} {R : sProp 𝕄}
    (c : Dev nD) (k : Fin 15) {o o' : Fin 2 → ℕ}
    {hb : ∀ a, o a + S16x256.size a ≤ S256x256.size a} {hb' : ∀ a, o' a + S16x256.size a ≤ S256x256.size a} {sS : DmaSem sig} (hS : sS = sendS (pk c k.castSucc))
    {hsrc : (gM.slice (Rect.unit (s := S256x256) o S16x256.size hb) (fun _ => rfl)).view.WordExact}
    {hdst : (gM.slice (Rect.unit (s := S256x256) o' S16x256.size hb') (fun _ => rfl)).view.WordExact}
    (h : iprop(records m ρ K ∗ freeSt m ρ c (k.val + 1) ∗ R) ⊢ wp frame (wpE (defs₀ (F := F)) 𝒱₀ c none) Set.univ (kk ⟨⟩) Q) :
    iprop(records m ρ K ∗ freeSt m ρ c k.val ∗ R)
      ⊢ wp frame (wpE (defs₀ (F := F)) 𝒱₀ c none) Set.univ
          (.op (.waitDma2 sS (gM.slice (Rect.unit (s := S256x256) o S16x256.size hb) (fun _ => rfl))
            (gM.slice (Rect.unit (s := S256x256) o' S16x256.size hb') (fun _ => rfl)) hsrc hdst) kk) Q := by
  subst hS
  unfold freeSt owesW
  rw [fromK_step]
  unfold freeRes sendGot
  iintro ⟨#HI, ⟨⟨%W, HO⟩, ⟨⟨Hcr, Hat⟩, Hrest⟩, Hgot⟩, HR⟩
  iapply (Rounds.wp_wait_rest_token 𝒱₀ ER (sched m ρ) (c : Thread nD τ) none (κ := K (c, some (false, pk c k.castSucc)))
      (wpE_waitDma2_eq (hsrc := hsrc) (hdst := hdst) 𝒱₀ (c : Thread nD τ) none Set.univ) (Set.mem_univ _) () (O := 0) (W := W) (R := 0) (m := 0) (T := ∅)
      (k' := N) (by rw [Nat.zero_add, expect_send m ρ c (pk_ne c k)])) $$ [Hcr HO Hat]
  · isplitr; · iapply (inv_at m ρ K (c, some (false, pk c k.castSucc))); iexact HI
    isplitl [Hcr]; · iexact Hcr
    isplitl [HO]; · iexact HO
    isplitr; · rw [MayWait_zero]; iempintro
    iexact Hat
  iintro ⟨HO, Hat, -, Hpay⟩
  ihave Hp := (Entails.of_eq (rest_send m ρ c (pk_ne c k))) $$ Hpay
  unfold sendPay
  rw [stepTo_pk]
  iapply h
  isplitr; · iexact HI
  isplitr [HR]
  · unfold freeSt owesW
    rw [upTo_step]
    isplitl [HO]; · iexists (insert (SemLoc.dma (sendS (pk c k.castSucc)), ()) W); iexact HO
    isplitl [Hrest]; · iexact Hrest
    isplitr [Hgot]
    · unfold freeGot; isplitl [Hp]; · iexact Hp
      iexact Hat
    iexact Hgot
  iexact HR

end Cert.KProof

end
-- ==== Proof.Body.lean ====
/-
# The kernel's body on a symbolic device

The body is run once, at device `c`: fifteen signals, the device's own block computed and stored in its window, the barrier
wait, fifteen copies, fifteen waits for the others' blocks, the product with the gathered buffer, fifteen waits for the
sources. What is held at the start is `bodyPre`, at the end `bodyPost`.
-/
module

public import proofs.«01_k».proof.Proof.Steps
public import proofs.«01_k».proof.Proof.Gen.KernelIdeal.Points

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- What each of the fifteen gives, all give. -/
theorem each {Φ Ψ : Fin 15 → sProp 𝕄} (h : ∀ k, Φ k ⊢ Ψ k) : bigSep Finset.univ Φ ⊢ bigSep Finset.univ Ψ := bigSep_mono fun k _ => h k

/-! ## Sixteen windows: fifteen and one's own -/

omit [FloatOps F] in
/-- A family over sixteen is its last member and the first fifteen. -/
theorem bigSep_last (Φ : Fin 16 → sProp 𝕄) :
    bigSep Finset.univ Φ = iprop(Φ (Fin.last 15) ∗ bigSep Finset.univ fun k : Fin 15 => Φ k.castSucc) := by
  rw [show (Finset.univ : Finset (Fin 16)) = insert (Fin.last 15) (Finset.univ.map Fin.castSuccEmb) by decide,
    BI.bigSep_insert (by decide), bigSep_map]
  rfl

omit [FloatOps F] in
/-- A family over the devices, taken forwards around the ring from `c`; -/
theorem bigSep_around (c : Dev nD) (Φ : Fin 16 → sProp 𝕄) :
    bigSep Finset.univ Φ = iprop(Φ c ∗ bigSep Finset.univ fun k : Fin 15 => Φ (pk c k.castSucc)) := by
  rw [bigSep_univ_equiv (around c) Φ, bigSep_last]
  show iprop(Φ (pk c (Fin.last 15)) ∗ _) = _
  rw [pk_last]; rfl
omit [FloatOps F] in
/-- or backwards. -/
theorem bigSep_aroundB (c : Dev nD) (Φ : Fin 16 → sProp 𝕄) :
    bigSep Finset.univ Φ = iprop(Φ c ∗ bigSep Finset.univ fun k : Fin 15 => Φ (bk c k.castSucc)) := by
  rw [bigSep_univ_equiv (aroundB c) Φ, bigSep_last]
  show iprop(Φ (bk c (Fin.last 15)) ∗ _) = _
  rw [bk_last]; rfl

omit [FloatOps F] in
/-- The gather buffer at some contents is its sixteen windows, each at those. -/
theorem windows_split (c : Dev nD) (q : PosShare TreeShare) (f : Buf (Elt F) ((c : Thread nD τ).loc cc0_scratch0)) :
    (((c : Thread nD τ).loc cc0_scratch0) ↦{q} f : sProp 𝕄) = bigSep Finset.univ fun s => winPts c s q f :=
  Ring.pointsTo_blocks (Ix := Unit) (Name := ℕ) (U := UU) (Lvl := ℕ) (ℓ := (c : Thread nD τ).loc cc0_scratch0) (B := Fin 16) win win_disjoint win_cover f

omit [FloatOps F] in
/-- What the launch leaves in the gather buffer, window by window. -/
theorem scratch_split (c : Dev nD) :
    iprop(∃ f, ((c : Thread nD τ).loc cc0_scratch0) ↦{fullShare} f)
      ⊢ (iprop((∃ f, winPts c c fullShare f) ∗ bigSep Finset.univ fun k : Fin 15 => iprop(∃ f, winPts c (pk c k.castSucc) fullShare f)) : sProp 𝕄) := by
  iintro ⟨%f, H⟩
  ihave H := (Entails.of_eq ((windows_split c fullShare f).trans (bigSep_around c _))) $$ H
  icases H with ⟨H0, H⟩
  isplitl [H0]; · iexists f; iexact H0
  iapply (each (Φ := fun k : Fin 15 => winPts c (pk c k.castSucc) fullShare f) (Ψ := fun k : Fin 15 => iprop(∃ f, winPts c (pk c k.castSucc) fullShare f)) fun k => by iintro H; iexists f; iexact H)
  iexact H

omit [FloatOps F] in
/-- A window's full share is its remainder and the fifteen shares the copies read. -/
theorem win_toks (c : Dev nD) (s : Fin 16) (f : Buf (Elt F) ((c : Thread nD τ).loc cc0_scratch0)) :
    (winPts c s fullShare f : sProp 𝕄) ⊢ iprop(winPts c s restQ f ∗ bigSep Finset.univ fun k : Fin 15 => winPts c s (tokQ k) f) := by
  unfold winPts; exact Transfers.pointsTo_toks_split _ 15
omit [FloatOps F] in
theorem win_toks_join (c : Dev nD) (s : Fin 16) (f : Buf (Elt F) ((c : Thread nD τ).loc cc0_scratch0)) :
    iprop(winPts c s restQ f ∗ bigSep Finset.univ fun k : Fin 15 => winPts c s (tokQ k) f) ⊢ (winPts c s fullShare f : sProp 𝕄) := by
  unfold winPts; exact Transfers.pointsTo_toks_join _ 15

/-- What is left over of the other devices' windows when all sixteen are read at the remainder's share. -/
def spare (c : Dev nD) : sProp 𝕄 :=
  bigSep Finset.univ fun k : Fin 15 => bigSep Finset.univ fun j : Fin 15 => winPts c (bk c k.castSucc) (tokQ j) (gath m ρ)

/-- The own window's remainder and the fifteen that landed: the whole gathered buffer, at the remainder's share. -/
theorem gather_whole (c : Dev nD) :
    iprop(winPts c c restQ (gath m ρ) ∗ bigSep Finset.univ fun k : Fin 15 => winPts c (bk c k.castSucc) fullShare (gath m ρ))
      ⊢ iprop((((c : Thread nD τ).loc cc0_scratch0) ↦{restQ} gath m ρ) ∗ spare m ρ c) := by
  unfold spare
  iintro ⟨H0, H⟩
  ihave H := (each fun k => win_toks c (bk c k.castSucc) (gath m ρ)) $$ H
  ihave H := (Entails.of_eq (bigSep_sep' _ _ _)) $$ H
  icases H with ⟨H, Hs⟩
  isplitr [Hs]
  · iapply (Entails.of_eq ((windows_split c restQ (gath m ρ)).trans (bigSep_aroundB c _)).symm)
    isplitl [H0]; · iexact H0
    iexact H
  iexact Hs

/-- And back, with the fifteen shares the copies had: the gather buffer whole. -/
theorem gather_back (c : Dev nD) :
    iprop((((c : Thread nD τ).loc cc0_scratch0) ↦{restQ} gath m ρ) ∗ spare m ρ c ∗ bigSep Finset.univ fun k : Fin 15 => winPts c c (tokQ k) (gath m ρ))
      ⊢ iprop(((c : Thread nD τ).loc cc0_scratch0) ↦{fullShare} gath m ρ) := by
  unfold spare
  iintro ⟨H, Hs, Ht⟩
  ihave H := (Entails.of_eq ((windows_split c restQ (gath m ρ)).trans (bigSep_aroundB c _))) $$ H
  icases H with ⟨H0, H⟩
  iapply (Entails.of_eq ((windows_split c fullShare (gath m ρ)).trans (bigSep_aroundB c _)).symm)
  isplitl [H0 Ht]
  · iapply (win_toks_join c c (gath m ρ)); isplitl [H0] <;> iassumption
  iapply (each fun k => win_toks_join c (bk c k.castSucc) (gath m ρ))
  iapply (Entails.of_eq (bigSep_sep' _ _ _).symm)
  isplitl [H] <;> iassumption

/-! ## The loads and the stores -/

theorem hz2 : (![0, 0] : Fin 2 → Nat) = fun _ => 0 := funext fun a => by fin_cases a <;> rfl

/-- The load of the device's own window, whose value nothing reads, -/
theorem own_load {α : Type} {Q : α → sProp 𝕄} {kk : ((S16x256).Idx → Elt F .f32) → Prog (TpuEff nD τ sig (Elt F) Λ₀ .tc) α} (c : Dev nD) {o : Fin 2 → ℕ} (ho : o = woff c)
    {hb : ∀ a, o a + S16x256.size a ≤ S256x256.size a} {f : Buf (Elt F) ((c : Thread nD τ).loc cc0_scratch0)}
    {hl : (gM : Memref sig .tc .vmem S256x256 .f32).view.LoadsAt (Rect.unit (s := S256x256) o S16x256.size hb).toLoadRect} :
    winPts c c fullShare f ⊢ iprop((∀ v, winPts c c fullShare f -∗ wp frame (wpE (defs₀ (F := F)) 𝒱₀ c none) Set.univ (kk v) Q)
      -∗ wp frame (wpE (defs₀ (F := F)) 𝒱₀ c none) Set.univ (.op (.load gM (Rect.unit (s := S256x256) o S16x256.size hb).toLoadRect hl) kk) Q) := by
  subst ho
  unfold winPts
  iintro H Hk
  iapply (wp_load_rect 𝒱₀ (c : Thread nD τ) none Set.univ (m := gM) (r := wrect c) (by
    rw [show ((gM : Memref sig .tc .vmem S256x256 .f32).access (wrect c)).set = win c from View.set_slice_whole _ _])) $$ H
  iintro H
  iapply Hk; iexact H

/-- and the store of the device's block there. -/
theorem own_store {α : Type} {Q : α → sProp 𝕄} {kk : PUnit → Prog (TpuEff nD τ sig (Elt F) Λ₀ .tc) α} (c : Dev nD) {o : Fin 2 → ℕ} (ho : o = woff c)
    {hb : ∀ a, o a + S16x256.size a ≤ S256x256.size a} {f : Buf (Elt F) ((c : Thread nD τ).loc cc0_scratch0)}
    {w : (S16x256).Idx → Elt F .f32} (hw : w = blob m ρ c)
    {hx : ((gM : Memref sig .tc .vmem S256x256 .f32).access (Rect.unit (s := S256x256) o S16x256.size hb)).Stores Finset.univ}
    {hm : (Finset.univ : Finset (S16x256).Idx) = Finset.univ ∨ ∀ a, (Rect.unit (s := S256x256) o S16x256.size hb).stride a = 1} :
    winPts c c fullShare f ⊢ iprop((winPts c c fullShare (gath m ρ) -∗ wp frame (wpE (defs₀ (F := F)) 𝒱₀ c none) Set.univ (kk ⟨⟩) Q)
      -∗ wp frame (wpE (defs₀ (F := F)) 𝒱₀ c none) Set.univ
          (.op (.store gM (Rect.unit (s := S256x256) o S16x256.size hb) w Finset.univ hx hm) kk) Q) := by
  subst ho
  rw [← winPts_write m ρ c c fullShare f w hw]
  unfold winPts
  iintro H Hk
  iapply (wp_store 𝒱₀ (c : Thread nD τ) none Set.univ (m := gM) (r := wrect c) (Mk := Finset.univ) (by
    rw [View.setOn_univ, show ((gM : Memref sig .tc .vmem S256x256 .f32).access (wrect c)).set = win c from View.set_slice_whole _ _])) $$ H
  iintro H
  iapply Hk; iexact H

/-- The kernel's result on device `c`: the routing matrix times the gathered buffer. -/
def outAt (c : Dev nD) : (cc0_stg3_0 : Ref sig .tc).ty.Contents (Elt F) :=
  k0_pay10 (k0_pay9 (k0_pay2 (F := F) (rstg m ρ c)) (k0_pay3 (k0_pay2 (F := F) (rstg m ρ c)))
    (k0_pay7 (k0_pay1 (rstg m ρ c))) (k0_pay8 (k0_pay1 (rstg m ρ c))) 6#32) (gath m ρ)

/-! ## What the body starts from and ends with -/

/-- The device's positions on its cells; its own send and receive cells are never used. -/
def posns (c : Dev nD) (a : ℕ) : sProp 𝕄 :=
  iprop(atPos ER (barCell c) a ∅ 0
    ∗ (bigSep Finset.univ fun k : Fin 15 => atPos ER (sendCell c (pk c k.castSucc)) a ∅ 0)
    ∗ bigSep Finset.univ fun k : Fin 15 => atPos ER (recvCell c (bk c k.castSucc)) a ∅ 0)
def posnsOwn (c : Dev nD) : sProp 𝕄 := iprop(atPos ER (sendCell c c) 0 ∅ 0 ∗ atPos ER (recvCell c c) 0 ∅ 0)

/-- The tokens of the duties the device pays. -/
def payToks (c : Dev nD) : sProp 𝕄 :=
  iprop((bigSep Finset.univ fun k : Fin 15 => dutyTok ER (barCell (pk c k.castSucc)) 0 k.rev)
    ∗ (bigSep Finset.univ fun k : Fin 15 => dutyTok ER (sendCell c (pk c k.castSucc)) 0 0)
    ∗ bigSep Finset.univ fun k : Fin 15 => dutyTok ER (recvCell (pk c k.castSucc) c) 0 0)

def ghost (K : Dev nD × CIx → ℕ) (c : Dev nD) : sProp 𝕄 := iprop(records m ρ K ∗ (posns c 0 ∗ posnsOwn c) ∗ payToks c)

/-- The credits for its waits on what others do. -/
def credits (c : Dev nD) : sProp 𝕄 :=
  iprop(cred (tallyAt (barCell c) () 15) ∗ bigSep Finset.univ fun k : Fin 15 => cred (tallyAt (recvCell c (bk c k.castSucc)) () N))

def start (c : Dev nD) : sProp 𝕄 := iprop((∃ K, ghost m ρ K c) ∗ credits c ∗ levAts L lv)

def Φ₀ (c : Dev nD) : sProp 𝕄 := iprop(start m ρ c ∗ ∃ f, ((c : Thread nD τ).loc cc0_scratch0) ↦{fullShare} f)
/-- After the body: the gather buffer at some contents and every cell of the exchange closed, its counter at zero. -/
def Φ₁ (c : Dev nD) : sProp 𝕄 :=
  iprop((∃ f, ((c : Thread nD τ).loc cc0_scratch0) ↦{fullShare} f) ∗ bigSep Finset.univ fun k : CIx => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Closing the cells -/

omit [FloatOps F] in
/-- What is known persistently is there for every member of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section Close
variable (K : Dev nD × CIx → ℕ)

/-- A cell whose one round is over, or that has none, closes. -/
theorem close_at (ck : Dev nD × CIx) (a : ℕ) (ha : ∀ r, a ≤ r → (sched (F := F) m ρ).duties (kcell ck) r = ∅) :
    iprop(records m ρ K ∗ atPos ER (kcell ck) a ∅ 0) ⊢ iprop(|={Set.univ}=> semVal (kcell ck) 0 : sProp 𝕄) := by
  iintro ⟨#HI, H⟩
  iapply (Rounds.cell_close ER (sched m ρ) (Set.mem_univ (K ck)) (fun h => h) (R := a) ha)
  isplitr; · iapply (inv_at m ρ K ck); iexact HI
  iexact H

omit [FloatOps F] in
/-- A device's cells: its barrier, its own send and receive, the fifteen sends on and the fifteen receives back. -/
theorem cells_eq (c : Dev nD) (Φ : CIx → sProp 𝕄) :
    bigSep Finset.univ Φ = iprop(Φ none
      ∗ (Φ (some (false, c)) ∗ bigSep Finset.univ fun k : Fin 15 => Φ (some (false, pk c k.castSucc)))
      ∗ (Φ (some (true, c)) ∗ bigSep Finset.univ fun k : Fin 15 => Φ (some (true, bk c k.castSucc)))) := by
  rw [show (Finset.univ : Finset CIx) = insert none (Finset.univ.map Function.Embedding.some) from rfl,
    BI.bigSep_insert (by decide), bigSep_map, bigSep_univ_prod]
  rw [show (Finset.univ : Finset Bool) = insert false {true} by decide, BI.bigSep_insert (by decide), bigSep_singleton]
  rw [← bigSep_around c (fun j => Φ (some (false, j))), ← bigSep_aroundB c (fun j => Φ (some (true, j)))]
  rfl

theorem close_all (c : Dev nD) :
    iprop(records m ρ K ∗ posns c 1 ∗ posnsOwn c) ⊢ iprop(|={Set.univ}=> bigSep Finset.univ fun k : CIx => semVal (kcell (c, k)) 0 : sProp 𝕄) := by
  rw [cells_eq c]
  unfold posns posnsOwn
  iintro ⟨#HI, ⟨Hb, Hs, Hr⟩, Hos, Hor⟩
  imod (close_at m ρ K (c, none) 1 (duties_later m ρ _)) $$ [Hb] with Hb
  · isplitr; · iexact HI
    iexact Hb
  imod (close_at m ρ K (c, some (false, c)) 0 (duties_own m ρ c false)) $$ [Hos] with Hos
  · isplitr; · iexact HI
    iexact Hos
  imod (close_at m ρ K (c, some (true, c)) 0 (duties_own m ρ c true)) $$ [Hor] with Hor
  · isplitr; · iexact HI
    iexact Hor
  imod ((bigSep_with (R := records m ρ K) fun (k : Fin 15) _ => close_at m ρ K (c, some (false, pk c k.castSucc)) 1 (duties_later m ρ _)).trans
    (bigSep_fupd _ _)) $$ [Hs] with Hs
  · isplitr; · iexact HI
    iexact Hs
  imod ((bigSep_with (R := records m ρ K) fun (k : Fin 15) _ => close_at m ρ K (c, some (true, bk c k.castSucc)) 1 (duties_later m ρ _)).trans
    (bigSep_fupd _ _)) $$ [Hr] with Hr
  · isplitr; · iexact HI
    iexact Hr
  imodintro
  isplitl [Hb]; · iexact Hb
  isplitl [Hos Hs]
  · isplitl [Hos] <;> iassumption
  isplitl [Hor] <;> iassumption

end Close

end Cert.KProof

end
-- ==== Proof.Places.lean ====
/-
# The places of the body

What a device holds at the four places where the kinds of step change, and how one follows from the other.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ ∃ f, ((c : Thread nD τ).loc cc0_scratch0) ↦{fullShare} f)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ
    ∗ stg c cc0_stg0_0 (xstg m ρ c) ∗ stg c cc0_stg1_0 (rstg m ρ c) ∗ stg c cc0_stg2_0 (wstg m ρ c) ∗ stg c cc0_stg3_0 (outAt m ρ c))

/-! ## What is held besides the steps' own -/

/-- The staged inputs. -/
def ins (c : Dev nD) : sProp 𝕄 :=
  iprop((((c : Thread nD τ).loc cc0_stg0_0) ↦{fullShare} xstg m ρ c) ∗ (((c : Thread nD τ).loc cc0_stg1_0) ↦{fullShare} rstg m ρ c)
    ∗ (((c : Thread nD τ).loc cc0_stg2_0) ↦{fullShare} wstg m ρ c))
/-- The result's buffer, at some contents. -/
def outAny (c : Dev nD) : sProp 𝕄 := iprop(∃ f, ((c : Thread nD τ).loc cc0_stg3_0) ↦{fullShare} f)

/-- During the signals, -/
def held₁ (c : Dev nD) : sProp 𝕄 :=
  iprop((∃ f, winPts c c fullShare f) ∗ (posns c 0 ∗ posnsOwn c)
    ∗ ((bigSep Finset.univ fun k : Fin 15 => dutyTok ER (sendCell c (pk c k.castSucc)) 0 0)
      ∗ bigSep Finset.univ fun k : Fin 15 => dutyTok ER (recvCell (pk c k.castSucc) c) 0 0)
    ∗ credits c ∗ levAts L lv ∗ ins m ρ c ∗ outAny c)
/-- during the copies, -/
def held₂ (c : Dev nD) : sProp 𝕄 :=
  iprop(winPts c c restQ (gath m ρ)
    ∗ (atPos ER (barCell c) 1 ∅ 0 ∗ (bigSep Finset.univ fun k : Fin 15 => atPos ER (sendCell c (pk c k.castSucc)) 0 ∅ 0) ∗ posnsOwn c)
    ∗ (bigSep Finset.univ (recvRes (F := F) c)) ∗ ins m ρ c ∗ outAny c)
/-- during the waits for the landings, -/
def held₃ (c : Dev nD) : sProp 𝕄 :=
  iprop(winPts c c restQ (gath m ρ) ∗ (atPos ER (barCell c) 1 ∅ 0 ∗ posnsOwn c)
    ∗ (bigSep Finset.univ (freeRes (F := F) c)) ∗ ins m ρ c ∗ outAny c)
/-- and during the waits for the sources. -/
def held₄ (c : Dev nD) : sProp 𝕄 :=
  iprop(((((c : Thread nD τ).loc cc0_scratch0) ↦{restQ} gath m ρ) ∗ spare m ρ c)
    ∗ (atPos ER (barCell c) 1 ∅ 0 ∗ (bigSep Finset.univ fun k : Fin 15 => atPos ER (recvCell c (bk c k.castSucc)) 1 ∅ 0) ∗ posnsOwn c)
    ∗ ins m ρ c ∗ ((c : Thread nD τ).loc cc0_stg3_0) ↦{fullShare} outAt m ρ c)

theorem before_0 (c : Dev nD) (d) : (dats m ρ 0 c).before (0 : Fin 4) t₀ d = xstg m ρ c := by
  unfold Dat.before; rw [if_pos (fetch0_0 t₀)]; rfl
theorem before_1 (c : Dev nD) (d) : (dats m ρ 0 c).before (1 : Fin 4) t₀ d = rstg m ρ c := by
  unfold Dat.before; rw [if_pos (fetch0_1 t₀)]; rfl
theorem before_2 (c : Dev nD) (d) : (dats m ρ 0 c).before (2 : Fin 4) t₀ d = wstg m ρ c := by
  unfold Dat.before; rw [if_pos (fetch0_2 t₀)]; rfl

/-- The start of the body is the start of the signals. -/
theorem enter (c : Dev nD) : bodyPre m ρ K c ⊢ iprop(records m ρ K ∗ sigSt c 0 ∗ held₁ m ρ c) := by
  unfold bodyPre ghost payToks
  iintro ⟨⟨⟨#HI, Hpos, HtB, HtS, HtR⟩, Hcr, Hlev, Hscr⟩, Ho, ⟨%d0, %g0, %h0, Hx⟩, ⟨%d1, %g1, %h1, Hr⟩, ⟨%d2, %g2, %h2, Hw⟩, ⟨%d3, %g3, -, Hout⟩⟩
  rw [before_0] at h0; rw [before_1] at h1; rw [before_2] at h2
  subst h0 h1 h2
  unfold Dat.owesAt Pipeline.owesWithin
  icases Ho with ⟨%W, -, HO⟩
  rw [show (dats m ρ 0 c).owed t₀.castSucc = oBar c 0 + oRecv c 0 from rfl]
  ihave Hscr := (scratch_split c) $$ Hscr
  icases Hscr with ⟨Hown, Hwin⟩
  isplitr; · iexact HI
  isplitl [HO HtB Hwin]
  · unfold sigSt owesW
    isplitl [HO]; · iexists W; iexact HO
    rw [fromK_all]
    iapply (each fun k => show iprop(dutyTok ER (barCell (pk c k.castSucc)) 0 k.rev ∗ ∃ f, winPts c (pk c k.castSucc) fullShare f) ⊢ sigRes (F := F) c k from BI.Entails.refl _)
    iapply (Entails.of_eq (bigSep_sep' _ _ _).symm)
    isplitl [HtB]; · iexact HtB
    iexact Hwin
  unfold held₁ ins outAny
  isplitl [Hown]; · iexact Hown
  isplitl [Hpos]; · iexact Hpos
  isplitl [HtS HtR]
  · isplitl [HtS] <;> iassumption
  isplitl [Hcr]; · iexact Hcr
  isplitl [Hlev]; · iexact Hlev
  isplitl [Hx Hr Hw]
  · isplitl [Hx]; · iexact Hx
    isplitl [Hr] <;> iassumption
  iexists g3; iexact Hout

/-- Behind the barrier, the block in its window: the start of the copies. -/
theorem toSend (c : Dev nD) (R : sProp 𝕄) :
    iprop(records m ρ K ∗ owesW c (oRecv c 0) ∗ winPts c c fullShare (gath m ρ) ∗ (bigSep Finset.univ (barPay (F := F) c))
        ∗ ((bigSep Finset.univ fun k : Fin 15 => dutyTok ER (sendCell c (pk c k.castSucc)) 0 0)
          ∗ bigSep Finset.univ fun k : Fin 15 => dutyTok ER (recvCell (pk c k.castSucc) c) 0 0)
        ∗ (atPos ER (barCell c) 1 ∅ 0
          ∗ (bigSep Finset.univ fun k : Fin 15 => atPos ER (sendCell c (pk c k.castSucc)) 0 ∅ 0)
          ∗ (bigSep Finset.univ fun k : Fin 15 => atPos ER (recvCell c (bk c k.castSucc)) 0 ∅ 0) ∗ posnsOwn c)
        ∗ (bigSep Finset.univ fun k : Fin 15 => cred (tallyAt (recvCell c (bk c k.castSucc)) () N)) ∗ ins m ρ c ∗ outAny c ∗ R)
      ⊢ iprop(records m ρ K ∗ sendSt m ρ c 0 ∗ held₂ m ρ c ∗ R) := by
  iintro ⟨#HI, HO, Hw, Hbar, ⟨HtS, HtR⟩, ⟨HaB, HaS, HaR, HaO⟩, Hcr, Hins, Hout, HR⟩
  ihave Hw := (win_toks c c (gath m ρ)) $$ Hw
  icases Hw with ⟨Hw0, Hw⟩
  isplitr; · iexact HI
  isplitl [HO Hw Hbar HtS HtR]
  · unfold sendSt
    isplitl [HO]; · iexact HO
    rw [fromK_all, upTo_none]
    isplitl
    · iapply (each fun k => show iprop(winPts c c (tokQ k) (gath m ρ) ∗ barPay c k
          ∗ dutyTok ER (sendCell c (pk c k.castSucc)) 0 0 ∗ dutyTok ER (recvCell (pk c k.castSucc) c) 0 0) ⊢ sendRes m ρ c k from BI.Entails.refl _)
      rw [bigSep_sep', bigSep_sep', bigSep_sep']
      isplitl [Hw]; · iexact Hw
      isplitl [Hbar]; · iexact Hbar
      isplitl [HtS] <;> iassumption
    iempintro
  unfold held₂
  isplitr [HR]
  · isplitl [Hw0]; · iexact Hw0
    isplitl [HaB HaS HaO]
    · isplitl [HaB]; · iexact HaB
      isplitl [HaS] <;> iassumption
    isplitl [HaR Hcr]
    · iapply (each fun k => show iprop(cred (tallyAt (recvCell c (bk c k.castSucc)) () N) ∗ atPos ER (recvCell c (bk c k.castSucc)) 0 ∅ 0)
        ⊢ recvRes (F := F) c k from BI.Entails.refl _)
      rw [bigSep_sep']
      isplitl [Hcr] <;> iassumption
    isplitl [Hins] <;> iassumption
  iexact HR

/-- The end of the copies is the start of the waits for the landings, -/
theorem toRecv (c : Dev nD) (R : sProp 𝕄) :
    iprop(records m ρ K ∗ sendSt m ρ c 15 ∗ held₂ m ρ c ∗ R) ⊢ iprop(records m ρ K ∗ recvSt m ρ c 0 ∗ held₃ m ρ c ∗ R) := by
  unfold sendSt held₂ recvSt held₃
  rw [oRecv_done, upTo_all, fromK_all, upTo_none]
  iintro ⟨#HI, ⟨HO, -, Hgot⟩, ⟨Hw0, ⟨HaB, HaS, HaO⟩, Hres, Hins, Hout⟩, HR⟩
  isplitr; · iexact HI
  isplitl [HO Hres]
  · isplitl [HO]; · iexact HO
    isplitl; · iexact Hres
    iempintro
  isplitr [HR]
  · isplitl [Hw0]; · iexact Hw0
    isplitl [HaB HaO]
    · isplitl [HaB] <;> iassumption
    isplitl [Hgot HaS]
    · iapply (each fun k => show iprop(sendGot (F := F) c k ∗ atPos ER (sendCell c (pk c k.castSucc)) 0 ∅ 0) ⊢ freeRes (F := F) c k from BI.Entails.refl _)
      rw [bigSep_sep']
      isplitl [Hgot] <;> iassumption
    isplitl [Hins] <;> iassumption
  iexact HR

/-- and their end gives the gathered buffer whole. -/
theorem gathered (c : Dev nD) :
    iprop(upTo 15 (recvGot m ρ c) ∗ winPts c c restQ (gath m ρ))
      ⊢ iprop(((((c : Thread nD τ).loc cc0_scratch0) ↦{restQ} gath m ρ) ∗ spare m ρ c)
        ∗ bigSep Finset.univ fun k : Fin 15 => atPos ER (recvCell c (bk c k.castSucc)) 1 ∅ 0) := by
  rw [upTo_all]
  iintro ⟨Hgot, Hw⟩
  ihave Hgot := (each fun k => show recvGot m ρ c k ⊢ iprop(winPts c (bk c k.castSucc) fullShare (gath m ρ) ∗ atPos ER (recvCell c (bk c k.castSucc)) 1 ∅ 0)
    from BI.Entails.refl _) $$ Hgot
  ihave Hgot := (Entails.of_eq (bigSep_sep' _ _ _)) $$ Hgot
  icases Hgot with ⟨Hg, Ha⟩
  isplitr [Ha]
  · iapply (gather_whole m ρ c); isplitl [Hw] <;> iassumption
  iexact Ha

/-- The end of the waits for the sources is the end of the body. -/
theorem leave (c : Dev nD) : iprop(records m ρ K ∗ freeSt m ρ c 15 ∗ held₄ m ρ c) ⊢ iprop(|={Set.univ}=> bodyPost m ρ c) := by
  unfold freeSt held₄ ins owesW
  rw [upTo_all]
  iintro ⟨#HI, ⟨⟨%W, HO⟩, -, Hgot⟩, ⟨Hg, Hsp⟩, ⟨HaB, HaR, HaO⟩, ⟨Hx, Hr, Hw⟩, Hout⟩
  ihave Hgot := (each fun k => show freeGot m ρ c k ⊢ iprop(winPts c c (tokQ k) (gath m ρ) ∗ atPos ER (sendCell c (pk c k.castSucc)) 1 ∅ 0)
    from BI.Entails.refl _) $$ Hgot
  ihave Hgot := (Entails.of_eq (bigSep_sep' _ _ _)) $$ Hgot
  icases Hgot with ⟨Ht, HaS⟩
  imod (close_all m ρ K c) $$ [HaB HaR HaS HaO] with Hz
  · isplitr; · iexact HI
    isplitr [HaO]
    · unfold posns
      isplitl [HaB]; · iexact HaB
      isplitl [HaS] <;> iassumption
    iexact HaO
  imodintro
  unfold bodyPost Φ₁ Dat.owesAt Pipeline.owesWithin
  rw [show (dats m ρ 0 c).owed t₀.succ = 0 from rfl]
  isplitl [Hg Hsp Ht Hz]
  · isplitr [Hz]
    · iexists gath m ρ
      iapply (gather_back m ρ c)
      isplitl [Hg]; · iexact Hg
      isplitl [Hsp] <;> iassumption
    iexact Hz
  isplitl [HO]
  · iexists W
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Hout

end Cert.KProof

end
-- ==== Proof.Exec.lean ====
/-
# The body, executed

One theorem runs the body on device `c`, step after step.
-/
module

public import proofs.«01_k».proof.Proof.Places

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ)

omit [FloatOps F] in
theorem via {A C : sProp 𝕄} (B : sProp 𝕄) (h : A ⊢ B) (h' : B ⊢ C) : A ⊢ C := h.trans h'

omit [FloatOps F] in
theorem same (A : sProp 𝕄) : A ⊢ A := BI.Entails.refl _

omit [FloatOps F] in
theorem read_x (f : (cc0_stg0_0 : Ref sig .tc).ty.Contents (Elt F)) :
    (xM : Memref sig .tc .vmem S256x128 .f32).view.readAt (Elt F) (Rect.unit (s := S256x128) ![0, 0] S256x128.size inb_S256x128_S256x128_0_0).toLoadRect f = f :=
  Memref.readAt_unit_zero (Elt F) cc0_stg0_0 hz2 _ f
omit [FloatOps F] in
theorem read_r (f : (cc0_stg1_0 : Ref sig .tc).ty.Contents (Elt F)) :
    (rM : Memref sig .tc .vmem S256x1 .i32).view.readAt (Elt F) (Rect.unit (s := S256x1) ![0, 0] S256x1.size inb_S256x1_S256x1_0_0).toLoadRect f = f :=
  Memref.readAt_unit_zero (Elt F) cc0_stg1_0 hz2 _ f
omit [FloatOps F] in
theorem read_o (f : (cc0_stg3_0 : Ref sig .tc).ty.Contents (Elt F)) :
    (oM : Memref sig .tc .vmem S256x256 .f32).view.readAt (Elt F) (Rect.unit (s := S256x256) ![0, 0] S256x256.size inb_S256x256_S256x256_0_0).toLoadRect f = f :=
  Memref.readAt_unit_zero (Elt F) cc0_stg3_0 hz2 _ f
omit [FloatOps F] in
theorem read_g (f : (cc0_scratch0 : Ref sig .tc).ty.Contents (Elt F)) :
    (gM : Memref sig .tc .vmem S256x256 .f32).view.readAt (Elt F) (Rect.unit (s := S256x256) ![0, 0] S256x256.size inb_S256x256_S256x256_0_0).toLoadRect f = f :=
  Memref.readAt_unit_zero (Elt F) cc0_scratch0 hz2 _ f
omit [FloatOps F] in
theorem write_o (f w : (cc0_stg3_0 : Ref sig .tc).ty.Contents (Elt F)) :
    ((oM : Memref sig .tc .vmem S256x256 .f32).access (Rect.unit (s := S256x256) ![0, 0] S256x256.size inb_S256x256_S256x256_0_0) : View sig .tc _ _ _).write (Elt F) f w Finset.univ = w :=
  Memref.write_access_unit_zero_univ (Elt F) cc0_stg3_0 hz2 _ f w

/-- After the fifteen signals only the landings are owed. -/
theorem sig_done (c : Dev nD) : sigSt (F := F) c 15 ⊢ owesW c (oRecv c 0) := by
  unfold sigSt
  rw [oBar_done, zero_add]
  iintro ⟨H, -⟩
  iexact H

/-- What the body stores in its own window is the block. -/
theorem blob_eq (c : Dev nD) :
    k0_pay5 (k0_pay4 (ringPos c)
        (k0_pay1 ((rM : Memref sig .tc .vmem S256x1 .i32).view.readAt (Elt F) (Rect.unit (s := S256x1) ![0, 0] S256x1.size inb_S256x1_S256x1_0_0).toLoadRect (rstg m ρ c)))
        (k0_pay2 (F := F) ((rM : Memref sig .tc .vmem S256x1 .i32).view.readAt (Elt F) (Rect.unit (s := S256x1) ![0, 0] S256x1.size inb_S256x1_S256x1_0_0).toLoadRect (rstg m ρ c)))
        ((xM : Memref sig .tc .vmem S256x128 .f32).view.readAt (Elt F) (Rect.unit (s := S256x128) ![0, 0] S256x128.size inb_S256x128_S256x128_0_0).toLoadRect (xstg m ρ c))
        ((wM : Memref sig .tc .vmem S2x128x256 .f32).view.readAt (Elt F) er0 (wstg m ρ c))
        ((wM : Memref sig .tc .vmem S2x128x256 .f32).view.readAt (Elt F) er1 (wstg m ρ c))) = blob m ρ c := by
  rw [read_r, read_x]; rfl

/-- The semaphore of the `k`-th copy's source, by its place in the row. -/
theorem send_place (c : Dev nD) (k : Fin 15) : k0_off2 c (BitVec.ofNat 32 (1 + k.val)) = ![(pk c k.castSucc).val] := by
  rw [k0_off2_eq]; rfl
/-- The semaphore of the `k`-th landing, by its place in the row. -/
theorem recv_place (c : Dev nD) (k : Fin 15) : k0_off5 c (BitVec.ofNat 32 (1 + k.val)) = ![(bk c k.castSucc).val] := by
  rw [k0_off5_eq]
  have h : (c.val + 15 - k.val) % 16 = (c.val + (15 - k.val)) % 16 := by have := k.isLt; congr 1; omega
  rw [h]; rfl

/-- What the body stores in the result's buffer is the routing matrix times the gathered rows. -/
theorem out_eq (c : Dev nD) (fo : (cc0_stg3_0 : Ref sig .tc).ty.Contents (Elt F)) :
    ((oM : Memref sig .tc .vmem S256x256 .f32).access (Rect.unit (s := S256x256) ![0, 0] S256x256.size inb_S256x256_S256x256_0_0) : View sig .tc _ _ _).write (Elt F) fo
      (k0_pay10 (k0_pay9
        (k0_pay2 (F := F) ((rM : Memref sig .tc .vmem S256x1 .i32).view.readAt (Elt F) (Rect.unit (s := S256x1) ![0, 0] S256x1.size inb_S256x1_S256x1_0_0).toLoadRect (rstg m ρ c)))
        (k0_pay3 (k0_pay2 (F := F) ((rM : Memref sig .tc .vmem S256x1 .i32).view.readAt (Elt F) (Rect.unit (s := S256x1) ![0, 0] S256x1.size inb_S256x1_S256x1_0_0).toLoadRect (rstg m ρ c))))
        (k0_pay7 (k0_pay1 ((rM : Memref sig .tc .vmem S256x1 .i32).view.readAt (Elt F) (Rect.unit (s := S256x1) ![0, 0] S256x1.size inb_S256x1_S256x1_0_0).toLoadRect (rstg m ρ c))))
        (k0_pay8 (k0_pay1 ((rM : Memref sig .tc .vmem S256x1 .i32).view.readAt (Elt F) (Rect.unit (s := S256x1) ![0, 0] S256x1.size inb_S256x1_S256x1_0_0).toLoadRect (rstg m ρ c)))) 6#32)
        ((gM : Memref sig .tc .vmem S256x256 .f32).view.readAt (Elt F) (Rect.unit (s := S256x256) ![0, 0] S256x256.size inb_S256x256_S256x256_0_0).toLoadRect (gath m ρ)))
      Finset.univ = outAt m ρ c := by
  rw [read_r, read_g, write_o]; rfl

set_option maxHeartbeats 4000000 in
/-- The body, from `bodyPre` to `bodyPost`, one rule per operation in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  refine via (iprop(records m ρ K ∗ sigSt c 0 ∗ held₁ m ρ c ∗ (bodyPost m ρ c -∗ Kt ⟨⟩))) ?_ ?_
  · iintro ⟨H, Hk⟩
    ihave H := (enter m ρ K c) $$ H
    icases H with ⟨H1, H2, H3⟩
    isplitl [H1]; · iexact H1
    isplitl [H2]; · iexact H2
    isplitl [H3] <;> iassumption
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  -- the fifteen signals
  refine sig_step m ρ K c _ 0 (Fin.ext (k0_dev1_eq c)) ?_
  refine sig_step m ρ K c _ 1 (Fin.ext (k0_dev2_eq c)) ?_
  refine sig_step m ρ K c _ 2 (Fin.ext (k0_dev3_eq c)) ?_
  refine sig_step m ρ K c _ 3 (Fin.ext (k0_dev4_eq c)) ?_
  refine sig_step m ρ K c _ 4 (Fin.ext (k0_dev5_eq c)) ?_
  refine sig_step m ρ K c _ 5 (Fin.ext (k0_dev6_eq c)) ?_
  refine sig_step m ρ K c _ 6 (Fin.ext (k0_dev7_eq c)) ?_
  refine sig_step m ρ K c _ 7 (Fin.ext (k0_dev8_eq c)) ?_
  refine sig_step m ρ K c _ 8 (Fin.ext (k0_dev9_eq c)) ?_
  refine sig_step m ρ K c _ 9 (Fin.ext (k0_dev10_eq c)) ?_
  refine sig_step m ρ K c _ 10 (Fin.ext (k0_dev11_eq c)) ?_
  refine sig_step m ρ K c _ 11 (Fin.ext (k0_dev12_eq c)) ?_
  refine sig_step m ρ K c _ 12 (Fin.ext (k0_dev13_eq c)) ?_
  refine sig_step m ρ K c _ 13 (Fin.ext (k0_dev14_eq c)) ?_
  refine sig_step m ρ K c _ 14 (Fin.ext (k0_dev15_eq c)) ?_
  -- the loads, the block stored in its window
  refine via (iprop(records m ρ K ∗ sigSt c 15 ∗ held₁ m ρ c ∗ (bodyPost m ρ c -∗ Kt ⟨⟩))) (BI.Entails.refl _) ?_
  unfold held₁ ins posns credits
  iintro ⟨#HI, Hsig, ⟨⟨%fw, Hown⟩, ⟨⟨HaB, HaS, HaR⟩, HaO⟩, Htk, ⟨HcB, HcR⟩, #Hlev, ⟨Hx, Hr, Hw⟩, Hout⟩, Hk⟩
  ihave HO := (sig_done c) $$ Hsig
  iapply (wp_load 𝒱₀ (c : Thread nD τ) none Set.univ (m := rM) (Finset.subset_univ _)) $$ Hr; iintro Hr
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (own_load c (k0_off1_eq c)) $$ Hown
  iintro %v Hown
  iapply (own_store m ρ c (k0_off1_eq c) (blob_eq m ρ c)) $$ Hown
  iintro Hown
  -- the barrier
  unfold owesW
  icases HO with ⟨%W, HO⟩
  iapply (Rounds.wp_wait_rest_token 𝒱₀ ER (sched m ρ) (c : Thread nD τ) none (κ := K (c, none))
      (wpE_semWait_eq 𝒱₀ (c : Thread nD τ) none Set.univ) (Set.mem_univ _) () (O := oRecv c 0) (W := W) (R := 0) (m := 0) (T := ∅)
      (by rw [expect_bar]; decide)) $$ [HcB HO HaB]
  · isplitr; · iapply (inv_at m ρ K (c, none)); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  ihave Hall := (toSend m ρ K c iprop(bodyPost m ρ c -∗ Kt ⟨⟩)) $$ [HO HaB HaS HaR HaO Hp Hown Htk HcR Hx Hr Hw Hout Hk]
  · isplitr; · iexact HI
    isplitl [HO]; · unfold owesW; iexists (insert (SemLoc.reg barS, ()) W); iexact HO
    isplitl [Hown]; · iexact Hown
    isplitl [Hp]; · iexact Hp
    isplitl [Htk]; · iexact Htk
    isplitl [HaB HaS HaR HaO]
    · isplitl [HaB]; · iexact HaB
      isplitl [HaS]; · iexact HaS
      isplitl [HaR] <;> iassumption
    isplitl [HcR]; · iexact HcR
    isplitl [Hx Hr Hw]
    · unfold ins
      isplitl [Hx]; · iexact Hx
      isplitl [Hr] <;> iassumption
    isplitl [Hout] <;> iassumption
  iclear HI Hlev
  istop
  -- the fifteen copies
  refine via (iprop(records m ρ K ∗ sendSt m ρ c 0 ∗ held₂ m ρ c ∗ (bodyPost m ρ c -∗ Kt ⟨⟩))) (BI.Entails.refl _) ?_
  refine send_step m ρ K c _ 0 (Fin.ext (k0_dev16_eq c)) (k0_off4_eq c) (send_at (send_place c 0)) (recv_at (k0_off3_eq c)) ?_
  refine send_step m ρ K c _ 1 (Fin.ext (k0_dev17_eq c)) (k0_off4_eq c) (send_at (send_place c 1)) (recv_at (k0_off3_eq c)) ?_
  refine send_step m ρ K c _ 2 (Fin.ext (k0_dev18_eq c)) (k0_off4_eq c) (send_at (send_place c 2)) (recv_at (k0_off3_eq c)) ?_
  refine send_step m ρ K c _ 3 (Fin.ext (k0_dev19_eq c)) (k0_off4_eq c) (send_at (send_place c 3)) (recv_at (k0_off3_eq c)) ?_
  refine send_step m ρ K c _ 4 (Fin.ext (k0_dev20_eq c)) (k0_off4_eq c) (send_at (send_place c 4)) (recv_at (k0_off3_eq c)) ?_
  refine send_step m ρ K c _ 5 (Fin.ext (k0_dev21_eq c)) (k0_off4_eq c) (send_at (send_place c 5)) (recv_at (k0_off3_eq c)) ?_
  refine send_step m ρ K c _ 6 (Fin.ext (k0_dev22_eq c)) (k0_off4_eq c) (send_at (send_place c 6)) (recv_at (k0_off3_eq c)) ?_
  refine send_step m ρ K c _ 7 (Fin.ext (k0_dev23_eq c)) (k0_off4_eq c) (send_at (send_place c 7)) (recv_at (k0_off3_eq c)) ?_
  refine send_step m ρ K c _ 8 (Fin.ext (k0_dev24_eq c)) (k0_off4_eq c) (send_at (send_place c 8)) (recv_at (k0_off3_eq c)) ?_
  refine send_step m ρ K c _ 9 (Fin.ext (k0_dev25_eq c)) (k0_off4_eq c) (send_at (send_place c 9)) (recv_at (k0_off3_eq c)) ?_
  refine send_step m ρ K c _ 10 (Fin.ext (k0_dev26_eq c)) (k0_off4_eq c) (send_at (send_place c 10)) (recv_at (k0_off3_eq c)) ?_
  refine send_step m ρ K c _ 11 (Fin.ext (k0_dev27_eq c)) (k0_off4_eq c) (send_at (send_place c 11)) (recv_at (k0_off3_eq c)) ?_
  refine send_step m ρ K c _ 12 (Fin.ext (k0_dev28_eq c)) (k0_off4_eq c) (send_at (send_place c 12)) (recv_at (k0_off3_eq c)) ?_
  refine send_step m ρ K c _ 13 (Fin.ext (k0_dev29_eq c)) (k0_off4_eq c) (send_at (send_place c 13)) (recv_at (k0_off3_eq c)) ?_
  refine send_step m ρ K c _ 14 (Fin.ext (k0_dev30_eq c)) (k0_off4_eq c) (send_at (send_place c 14)) (recv_at (k0_off3_eq c)) ?_
  -- the waits for the landings
  refine via _ (toRecv m ρ K c iprop(bodyPost m ρ c -∗ Kt ⟨⟩)) ?_
  refine recv_step m ρ K c 0 (recv_at (recv_place c 0)) ?_
  refine recv_step m ρ K c 1 (recv_at (recv_place c 1)) ?_
  refine recv_step m ρ K c 2 (recv_at (recv_place c 2)) ?_
  refine recv_step m ρ K c 3 (recv_at (recv_place c 3)) ?_
  refine recv_step m ρ K c 4 (recv_at (recv_place c 4)) ?_
  refine recv_step m ρ K c 5 (recv_at (recv_place c 5)) ?_
  refine recv_step m ρ K c 6 (recv_at (recv_place c 6)) ?_
  refine recv_step m ρ K c 7 (recv_at (recv_place c 7)) ?_
  refine recv_step m ρ K c 8 (recv_at (recv_place c 8)) ?_
  refine recv_step m ρ K c 9 (recv_at (recv_place c 9)) ?_
  refine recv_step m ρ K c 10 (recv_at (recv_place c 10)) ?_
  refine recv_step m ρ K c 11 (recv_at (recv_place c 11)) ?_
  refine recv_step m ρ K c 12 (recv_at (recv_place c 12)) ?_
  refine recv_step m ρ K c 13 (recv_at (recv_place c 13)) ?_
  refine recv_step m ρ K c 14 (recv_at (recv_place c 14)) ?_
  -- the product of the routing matrix and the gathered rows
  refine via (iprop(records m ρ K ∗ recvSt m ρ c 15 ∗ held₃ m ρ c ∗ (bodyPost m ρ c -∗ Kt ⟨⟩))) (BI.Entails.refl _) ?_
  unfold held₃ recvSt outAny
  iintro ⟨#HI, ⟨HO, -, Hgot⟩, ⟨Hw0, ⟨HaB, HaO⟩, Hfree, Hins, ⟨%fo, Hout⟩⟩, Hk⟩
  ihave Hg := (gathered m ρ c) $$ [Hgot Hw0]
  · isplitl [Hgot] <;> iassumption
  icases Hg with ⟨⟨Hg, Hsp⟩, HaR⟩
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Hout; iintro Hout
  iapply (wp_store 𝒱₀ (c : Thread nD τ) none Set.univ (m := oM) (r := Rect.unit (s := S256x256) ![0, 0] S256x256.size inb_S256x256_S256x256_0_0) (Mk := Finset.univ) (Finset.subset_univ _)) $$ Hout
  iintro Hout
  ihave Hout := (Entails.of_eq (congrArg (fun f => (((c : Thread nD τ).loc cc0_stg3_0) ↦{fullShare} f : sProp 𝕄)) (out_eq m ρ c fo))) $$ Hout
  ihave Hall := (same iprop(records m ρ K ∗ freeSt m ρ c 0 ∗ held₄ m ρ c ∗ (bodyPost m ρ c -∗ Kt ⟨⟩))) $$ [HO Hfree Hg Hsp HaB HaR HaO Hins Hout Hk]
  · isplitr; · iexact HI
    isplitl [HO Hfree]
    · unfold freeSt
      rw [fromK_all, upTo_none]
      isplitl [HO]; · iexact HO
      isplitl; · iexact Hfree
      iempintro
    isplitr [Hk]
    · unfold held₄
      isplitl [Hg Hsp]
      · isplitl [Hg] <;> iassumption
      isplitl [HaB HaR HaO]
      · isplitl [HaB]; · iexact HaB
        isplitl [HaR] <;> iassumption
      isplitl [Hins] <;> iassumption
    iexact Hk
  iclear HI
  istop
  -- the waits for the sources
  refine free_step m ρ K c 0 (send_at (send_place c 0)) ?_
  refine free_step m ρ K c 1 (send_at (send_place c 1)) ?_
  refine free_step m ρ K c 2 (send_at (send_place c 2)) ?_
  refine free_step m ρ K c 3 (send_at (send_place c 3)) ?_
  refine free_step m ρ K c 4 (send_at (send_place c 4)) ?_
  refine free_step m ρ K c 5 (send_at (send_place c 5)) ?_
  refine free_step m ρ K c 6 (send_at (send_place c 6)) ?_
  refine free_step m ρ K c 7 (send_at (send_place c 7)) ?_
  refine free_step m ρ K c 8 (send_at (send_place c 8)) ?_
  refine free_step m ρ K c 9 (send_at (send_place c 9)) ?_
  refine free_step m ρ K c 10 (send_at (send_place c 10)) ?_
  refine free_step m ρ K c 11 (send_at (send_place c 11)) ?_
  refine free_step m ρ K c 12 (send_at (send_place c 12)) ?_
  refine free_step m ρ K c 13 (send_at (send_place c 13)) ?_
  refine free_step m ρ K c 14 (send_at (send_place c 14)) ?_
  rw [wp_ret]
  refine via (iprop(records m ρ K ∗ freeSt m ρ c 15 ∗ held₄ m ρ c ∗ (bodyPost m ρ c -∗ Kt ⟨⟩))) (BI.Entails.refl _) ?_
  iintro ⟨H1, H2, H3, Hk⟩
  imod (leave m ρ K c) $$ [H1 H2 H3] with H
  · isplitl [H1]; · iexact H1
    isplitl [H2] <;> iassumption
  imodintro
  iapply Hk; iexact H

end Cert.KProof

end
-- ==== Proof.Deal.lean ====
/-
# The launch's resources, dealt

Each cell's round state and the tokens of its duties are minted, the tokens go to the devices that pay, and
each device gets the credits for what the others owe it.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted, cell by cell -/

theorem csem_injective : Function.Injective csem := fun a b h => by
  have h := congrArg role h
  rw [role_csem, role_csem] at h
  exact Option.some.inj h
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- Every cell of the exchange, on every device. -/
def allCells : Finset (GSem nD τ sig) := Finset.univ.map ⟨kcell, kcell_injective⟩

/-- A device's `k`-th cell of a kind: its barrier's, a send's by the device the copy goes to, a receive's by the device it comes from. -/
def cellAt (c : Dev nD) : Option Bool → Fin 15 → CIx
  | none, _ => none
  | some false, k => some (false, pk c k.castSucc)
  | some true, k => some (true, bk c k.castSucc)
/-- The duty behind it: the barrier's are numbered, the copies' cells have one. -/
def dutyAt : Option Bool → Fin 15 → Fin 15
  | none, k => k
  | some _, _ => 0
/-- A duty's token as minted. -/
def tokOf (x : Dev nD × Option Bool × Fin 15) : GSem nD τ sig × ℕ × Fin 15 := (kcell (x.1, cellAt x.1 x.2.1 x.2.2), 0, dutyAt x.2.1 x.2.2)
theorem castSucc_inj {k j : Fin 15} (h : k.castSucc = j.castSucc) : k = j := Fin.castSucc_injective 15 h
theorem tokOf_injective : Function.Injective tokOf := by
  rintro ⟨c, o, k⟩ ⟨c', o', k'⟩ h
  have h0 := kcell_injective (congrArg Prod.fst h)
  have h1 : c = c' := congrArg Prod.fst h0
  subst h1
  have h2 : cellAt c o k = cellAt c o' k' := congrArg Prod.snd h0
  have h3 : dutyAt o k = dutyAt o' k' := congrArg (fun y : GSem nD τ sig × ℕ × Fin 15 => y.2.2) h
  rcases o with _ | _ | _ <;> rcases o' with _ | _ | _ <;> simp only [cellAt, dutyAt, Option.some.injEq, Prod.mk.injEq, reduceCtorEq, false_and, true_and, Bool.false_eq_true, Bool.true_eq_false] at h2 h3
  · rw [h3]
  · rw [castSucc_inj (pk_inj c h2)]
  · rw [castSucc_inj (bk_inj c h2)]
def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

/-- The duty tokens of a device's own cells. -/
def toks (c : Dev nD) : sProp 𝕄 :=
  iprop((bigSep Finset.univ fun k : Fin 15 => dutyTok ER (barCell c) 0 k)
    ∗ (bigSep Finset.univ fun k : Fin 15 => dutyTok ER (sendCell c (pk c k.castSucc)) 0 0)
    ∗ bigSep Finset.univ fun k : Fin 15 => dutyTok ER (recvCell c (bk c k.castSucc)) 0 0)

/-- What the launch deals device `c`. -/
def G (c : Dev nD) : sProp 𝕄 :=
  iprop((bigSep Finset.univ fun k : CIx => roundState ER (sched m ρ) (kcell (c, k)) 0)
    ∗ (bigSep Finset.univ fun k : CIx => iprop(atPos ER (kcell (c, k)) 0 ∅ 0 ∗ reached ER (kcell (c, k)) 0)) ∗ toks c)

/-- What the exchange of tokens makes of it. -/
def G' (c : Dev nD) : sProp 𝕄 := iprop(∃ K, ghost m ρ K c)

omit [FloatOps F] in
theorem bigSep_kinds (Φ : Option Bool → sProp 𝕄) : bigSep Finset.univ Φ = iprop(Φ none ∗ Φ (some false) ∗ Φ (some true)) :=
  bigSep_univ_eq_bigSepL [none, some false, some true] (by decide) (by decide) Φ

omit [FloatOps F] in
theorem bigSep_opt (Φ : CIx → sProp 𝕄) : bigSep Finset.univ Φ = iprop(Φ none ∗ bigSep Finset.univ fun p => Φ (some p)) := by
  rw [show (Finset.univ : Finset CIx) = insert none (Finset.univ.map Function.Embedding.some) from rfl,
    BI.bigSep_insert (by decide), bigSep_map]
  rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_kinds]; rfl
  iintro HX
  imod (Rounds.fund ER (sched m ρ) allCells allToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at zero -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The copies' semaphores are the kernel's own, the barrier the launch's one unscoped semaphore. -/
theorem sems0_eq (c : Dev nD) :
    (bigSep Finset.univ fun k : CIx => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_opt, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CIx => iprop(∃ κ : ℕ, cellInv ER (sched m ρ) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CIx => semVal (kcell (c, k)) 0) ∗ bigSep Finset.univ fun k : CIx => roundState ER (sched m ρ) (kcell (c, k)) 0)
      ⊢ (|={Set.univ}=> bigSep Finset.univ fun k : CIx => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay -/

omit [FloatOps F] in
theorem swapped (Φ : Fin 15 → Dev nD → sProp 𝕄) :
    (bigSep Finset.univ fun c : Dev nD => bigSep Finset.univ fun k : Fin 15 => Φ k c)
      = bigSep Finset.univ fun k : Fin 15 => bigSep Finset.univ fun c : Dev nD => Φ k c := by
  rw [← bigSep_univ_prod (fun x : Dev nD × Fin 15 => Φ x.2 x.1), ← bigSep_univ_prod (fun x : Fin 15 × Dev nD => Φ x.1 x.2),
    bigSep_univ_equiv (Equiv.prodComm (Fin 15) (Dev nD)) (fun x : Dev nD × Fin 15 => Φ x.2 x.1)]
  rfl

omit [FloatOps F] in
/-- A family over devices and steps, each step turned by itself. -/
theorem turned (Φ : Fin 15 → Dev nD → sProp 𝕄) :
    (bigSep Finset.univ fun c : Dev nD => bigSep Finset.univ fun k : Fin 15 => Φ k c)
      = bigSep Finset.univ fun c : Dev nD => bigSep Finset.univ fun k : Fin 15 => Φ k (pk c k.castSucc) := by
  rw [swapped Φ, swapped fun k c => Φ k (pk c k.castSucc)]
  exact bigSep_congr fun k _ => bigSep_univ_equiv (turn k.castSucc) (Φ k)

omit [FloatOps F] in
theorem toks_around : (bigSep Finset.univ fun c : Dev nD => (toks c : sProp 𝕄)) ⊢ bigSep Finset.univ fun c : Dev nD => payToks c := by
  have hB : (bigSep Finset.univ fun c : Dev nD => bigSep Finset.univ fun k : Fin 15 => (dutyTok ER (barCell c) 0 k : sProp 𝕄))
      = bigSep Finset.univ fun c : Dev nD => bigSep Finset.univ fun k : Fin 15 => dutyTok ER (barCell (pk c k.castSucc)) 0 k.rev := by
    rw [← turned fun k c => (dutyTok ER (barCell c) 0 k.rev : sProp 𝕄)]
    exact bigSep_congr fun c _ => bigSep_univ_equiv Fin.revPerm (fun k : Fin 15 => (dutyTok ER (barCell c) 0 k : sProp 𝕄))
  have hR : (bigSep Finset.univ fun c : Dev nD => bigSep Finset.univ fun k : Fin 15 => (dutyTok ER (recvCell c (bk c k.castSucc)) 0 0 : sProp 𝕄))
      = bigSep Finset.univ fun c : Dev nD => bigSep Finset.univ fun k : Fin 15 => dutyTok ER (recvCell (pk c k.castSucc) c) 0 0 := by
    rw [turned fun k c => (dutyTok ER (recvCell c (bk c k.castSucc)) 0 0 : sProp 𝕄)]
    exact bigSep_congr fun c _ => bigSep_congr fun k _ => by rw [bk_pk]
  unfold toks payToks
  rw [bigSep_sep', bigSep_sep', bigSep_sep', bigSep_sep', hB, hR]

omit [FloatOps F] in
theorem positions (c : Dev nD) : (bigSep Finset.univ fun k : CIx => (atPos ER (kcell (c, k)) 0 ∅ 0 : sProp 𝕄)) ⊢ iprop(posns c 0 ∗ posnsOwn c) := by
  rw [cells_eq c]
  unfold posns posnsOwn
  iintro ⟨Hb, ⟨Hos, Hs⟩, Hor, Hr⟩
  isplitl [Hb Hs Hr]
  · isplitl [Hb]; · iexact Hb
    isplitl [Hs]; · iexact Hs
    iexact Hr
  isplitl [Hos]; · iexact Hos
  iexact Hor

/-- What stays with device `c`: its positions, and the tokens of the duties it pays. -/
def linear (c : Dev nD) : sProp 𝕄 := iprop((posns c 0 ∗ posnsOwn c) ∗ payToks c)

theorem ghost_intro (K : Dev nD × CIx → ℕ) (c : Dev nD) : iprop(records m ρ K ∗ linear c) ⊢ G' m ρ c := by
  unfold linear G' ghost
  iintro H
  iexists K
  iexact H

theorem regroup :
    (bigSep Finset.univ fun c : Dev nD => iprop((bigSep Finset.univ fun k : CIx => iprop(∃ κ : ℕ, cellInv ER (sched m ρ) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CIx => iprop(∃ κ : ℕ, cellInv ER (sched m ρ) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m ρ) κ (kcell ck) : sProp 𝕄))) $$ HI
  icases HK with ⟨%K, #HI⟩
  ihave Htk := (toks_around (F := F)) $$ Htok
  ihave Hat := (show (bigSep Finset.univ fun c : Dev nD => bigSep Finset.univ fun k : CIx => (atPos ER (kcell (c, k)) 0 ∅ 0 : sProp 𝕄))
      ⊢ bigSep Finset.univ fun c : Dev nD => iprop(posns c 0 ∗ posnsOwn c) from bigSep_mono fun c _ => positions c) $$ Hat
  iapply (bigSep_with (R := records m ρ K) fun c _ => ghost_intro m ρ K c)
  isplitr
  · unfold records; isplitl; · iexact HI
    iexact HR
  · iapply (Entails.of_eq (bigSep_sep' Finset.univ (fun c : Dev nD => (iprop(posns c 0 ∗ posnsOwn c) : sProp 𝕄)) payToks).symm)
    isplitl [Hat]; · iexact Hat
    iexact Htk

/-- All devices at once: the cells' invariants, and the tokens where they are paid. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits: what the others owe a device's cells -/

theorem bar_iff {a b : Dev nD} : barCell a = barCell b ↔ a = b :=
  ⟨fun h => congrArg (fun g : GSem nD τ sig => g.1.1) h, fun h => h ▸ rfl⟩
theorem recv_iff {a b : Dev nD} {i j : Fin 16} : recvCell a i = recvCell b j ↔ a = b ∧ i = j :=
  ⟨fun h => by
    have h0 := kcell_injective (show kcell (a, some (true, i)) = kcell (b, some (true, j)) from h)
    exact ⟨congrArg Prod.fst h0, congrArg Prod.snd (Option.some.inj (congrArg Prod.snd h0))⟩, fun h => by rw [h.1, h.2]⟩
theorem bar_ne_recv (a b : Dev nD) (j : Fin 16) : barCell a ≠ recvCell b j := fun h => by
  have h0 := kcell_injective (show kcell (a, none) = kcell (b, some (true, j)) from h)
  exact absurd (congrArg Prod.snd h0) (by simp)

theorem sum_tally (S : Finset (Fin 15)) (cell : Fin 15 → GSem nD τ sig) (n : ℕ) (g : GSem nD τ sig) :
    (∑ k ∈ S, tallyAt (cell k) () n : CellTallies nD τ sig Unit) g () = ∑ k ∈ S, if g = cell k then n else 0 := by
  rw [Finset.sum_apply, Finsupp.finset_sum_apply]
  exact Finset.sum_congr rfl fun k _ => by rw [tallyAt_apply]; simp

theorem owed_bar (d c : Dev nD) : O₀ d (barCell c) () = ∑ k : Fin 15, if d = bk c k.castSucc then 1 else 0 := by
  unfold O₀ oBar oRecv
  rw [filter_all, Pi.add_apply, Finsupp.add_apply, sum_tally, sum_tally, Finset.sum_eq_zero (s := Finset.univ) (f := fun k : Fin 15 => if barCell c = recvCell (pk d k.castSucc) d then N else 0)
    fun k _ => if_neg (bar_ne_recv _ _ _), add_zero]
  refine Finset.sum_congr rfl fun k _ => ?_
  exact if_congr (bar_iff.trans ⟨fun h => by rw [h, bk_pk], fun h => by rw [h, pk_bk]⟩) rfl rfl

theorem owed_recv (d c : Dev nD) (j : Fin 15) : O₀ d (recvCell c (bk c j.castSucc)) () = if d = bk c j.castSucc then N else 0 := by
  unfold O₀ oBar oRecv
  rw [filter_all, Pi.add_apply, Finsupp.add_apply, sum_tally, sum_tally, Finset.sum_eq_zero (s := Finset.univ) (f := fun k : Fin 15 => if recvCell c (bk c j.castSucc) = barCell (pk d k.castSucc) then 1 else 0)
    fun k _ => if_neg (fun h => bar_ne_recv _ _ _ h.symm), zero_add]
  by_cases h : d = bk c j.castSucc
  · subst h
    rw [if_pos rfl, Finset.sum_eq_single j]
    · rw [if_pos (recv_iff.mpr ⟨(pk_bk c _).symm, rfl⟩)]
    · intro k _ hk
      refine if_neg fun h => hk (castSucc_inj (pk_inj (bk c j.castSucc) ?_))
      rw [pk_bk]; exact (recv_iff.mp h).1.symm
    · exact fun h => absurd (Finset.mem_univ _) h
  · rw [if_neg h]
    exact Finset.sum_eq_zero fun k _ => if_neg fun h' => h (recv_iff.mp h').2.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  rw [Finset.sum_congr rfl fun k _ => Finset.sum_ite_eq' Finset.univ (bk c (Fin.castSucc k)) fun _ => 1]
  simp

theorem launch_recv (c : Dev nD) (j : Fin 15) :
    tallyOn (recvCell c (bk c j.castSucc)) (launchCredit (Pipeline.owing O₀) 0 (recvCell c (bk c j.castSucc)))
      = (tallyAt (recvCell c (bk c j.castSucc)) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ _ fun _ => N,
    if_pos (Finset.mem_univ _)]

omit [FloatOps F] in
/-- Of a family over a device's semaphores, the barrier's member and the receives'. -/
theorem pick (c : Dev nD) (T : GSem nD τ sig → sProp 𝕄) :
    (bigSep Finset.univ fun sm : SemLoc sig => T ((c : Thread nD τ), sm))
      ⊢ iprop(T (barCell c) ∗ bigSep Finset.univ fun k : Fin 15 => T (recvCell c (bk c k.castSucc))) := by
  have e : (bigSep (Finset.univ.map ⟨csem, csem_injective⟩) fun sm : SemLoc sig => T ((c : Thread nD τ), sm)) = bigSep Finset.univ fun k : CIx => T (kcell (c, k)) := by
    rw [bigSep_map]; rfl
  have h : (bigSep Finset.univ fun sm : SemLoc sig => T ((c : Thread nD τ), sm)) ⊢ bigSep Finset.univ fun k : CIx => T (kcell (c, k)) :=
    (bigSep_subset (t := Finset.univ.map ⟨csem, csem_injective⟩) (Finset.subset_univ _)).trans (Entails.of_eq e)
  rw [cells_eq c] at h
  iintro H
  ihave H := (h) $$ H
  icases H with ⟨Hb, -, -, Hr⟩
  isplitl [Hb]; · iexact Hb
  iexact Hr

omit [FloatOps F] in
theorem creds (c : Dev nD) : (Pipeline.launchCred O₀ c : sProp 𝕄) ⊢ credits c := by
  unfold Pipeline.launchCred credits
  have h := pick c fun g => (cred (tallyOn g (launchCredit (Pipeline.owing O₀) 0 g)) : sProp 𝕄)
  simp only [launch_bar, launch_recv] at h
  exact h

end Cert.KProof

end
-- ==== Proof.Run.lean ====
/-
# The run

The body's obligation, the launch, and what the memory holds afterwards.
-/
module

public import proofs.«01_k».proof.Proof.Exec
public import proofs.«01_k».proof.Proof.Deal
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 20000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hstg⟩
  ihave Hpre := (same (bodyPre m ρ K c)) $$ [Hg Hcr Hlev Hscr Ho Hstg]
  · unfold bodyPre
    isplitl [Hg Hcr Hlev Hscr]
    · isplitl [Hg]; · iexact Hg
      isplitl [Hcr]; · iexact Hcr
      isplitl [Hlev]; · iexact Hlev
      iexact Hscr
    isplitl [Ho]; · iexact Ho
    iexact Hstg
  iapply (sound_body m ρ K c fun _ => bodyPost m ρ c)
  isplitl [Hpre]; · iexact Hpre
  iintro H; iexact H

/-! ## The launch's side conditions -/

theorem ownSemFacts : Pipeline.OwnSemFacts cfg0.spec osem := by decide

theorem share_eq (c : Dev nD) (w : Fin cfg0.W) : (dats m ρ 0 c).share w = fullShare := by unfold Dat.share; split <;> rfl

/-- The argument the kernel does not read, at its launch contents. -/
def idle (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ idle m c) := by
  rw [Pipeline.unscopedRestP_none, unscopedRest0_eq]
  iintro ⟨Hi, Hlev, Hcr, -, HG⟩
  ihave Hc := (creds (F := F) c) $$ Hcr
  imodintro
  unfold start G' idle
  isplitr [Hi]
  · isplitl [HG]; · iexact HG
    isplitl [Hc]; · iexact Hc
    iexact Hlev
  · iexact Hi

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

omit [FloatOps F] in
theorem idle_read (c : Dev nD) (s' : Phys nD τ sig (Elt F)) :
    iprop(idle m c ∗ SI s') ⊢ iprop(⌜s'.mem.mem ((c : Thread nD τ).loc main_arg1) = m ((c : Thread nD τ).loc main_arg1)⌝ ∗ SI s' : sProp 𝕄) := by
  have h := pointsTo_read_all (Ix := Unit) (Name := ℕ) (U := UU) (Lvl := ℕ) ({()} : Finset Unit) (fun _ => ((c : Thread nD τ).loc main_arg1))
    (fun _ => m ((c : Thread nD τ).loc main_arg1)) s'
  rw [bigSep_singleton] at h
  unfold idle
  iintro H
  ihave H := (h) $$ H
  icases H with ⟨%h, H⟩
  isplitr; · ipureintro; exact h () (Finset.mem_singleton_self _)
  iexact H

/-! ## The run -/

def finalA (c : Dev nD) (w : Fin cfg0.W) : Buf (Elt F) ((cfg0.win w).arr.view.loc (c : Thread nD τ)) := (dats m ρ 0 c).arrAt w cfg0.N

/-- What the run leaves: each window's array at its final contents, and the argument the kernel does not read. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- On sixteen devices, for any float values, from any memory with every counter at zero: the kernel terminates without fault, every
    window's array ends at its computed contents, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := idle m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hi, HSI⟩
      ihave H := (idle_read m c s') $$ [Hi HSI]
      · isplitl [Hi] <;> iassumption
      icases H with ⟨%hi, HSI⟩
      imod (Pipeline.unscopedSems0_read (X := unscopedSems0 c) (c := c) fupd_intro s') $$ [Hu HSI] with H
      · isplitl [Hu] <;> iassumption
      icases H with ⟨%hu, HSI⟩
      imodintro
      isplitr; · ipureintro; exact ⟨hu, hi⟩
      iexact HSI)
    (hQ := fun _ h hs => ⟨fun c => ⟨fun w => (h c).1 w, (h c).2.2.2⟩, sem_eq_zero hs fun c => (h c).2.2.1⟩)

/-! ## The arrays after the run -/

/-- The arguments the kernel reads hold what they held. -/
theorem finalA_in (c : Dev nD) (w : Fin cfg0.W) (hw : (cfg0.win w).isOut = false) :
    finalA m ρ c w = m ((cfg0.win w).arr.view.loc (c : Thread nD τ)) := (dats m ρ 0 c).arrAt_in w hw _

end Cert.KProof

end
-- ==== Proof.Frames.lean ====
/-
# The frames

Each program terminates without fault, leaves its arguments unchanged and every semaphore counter at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.KProof

open Idealize.ShloMosaic Idealize.ShloMosaic.TcCoe Idealize.SL.Sem
open Cert.KernelIdeal Cert.KernelIdeal.Gen

variable {F : FTy → Type} [FloatOps F]

/-- What the run leaves in the arguments: what they held. -/
theorem args_of_run (m : (ℓ : Loc nD τ sig) → Buf (Elt F) ℓ) (ρ : Dev nD → PrngReg) {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 (0 : Fin 4)).trans (finalA_in m ρ c (0 : Fin 4) rfl), (h c).2,
    ((h c).1 (1 : Fin 4)).trans (finalA_in m ρ c (1 : Fin 4) rfl), ((h c).1 (2 : Fin 4)).trans (finalA_in m ρ c (2 : Fin 4) rfl)⟩

/-- For any float values: the kernel terminates, its arguments and every semaphore counter as before. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run Cert.KernelIdeal.defs _ _).mono (fun _ h => ⟨fun c => args_of_run m ρ h.1 c, h.2⟩) (run_main m ρ)

/-- The frame of the kernel over the extended reals. -/
theorem frame_ideal : Cert.quiescent_KernelIdeal := fun m ρ _ => frame_any (F := Ideal) m ρ

/-- The two programs have the same text, so the one label of the one has the body of the other's. -/
theorem same_defs₀ [hK : Cert.Kernel.Facts] : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  cases l with
  | zero =>
    obtain ⟨t, s⟩ := a
    rfl
  | succ n => omega

/-- So their tables of bodies agree as well. -/
theorem same_defs [hK : Cert.Kernel.Facts] : Cert.Kernel.defs (F := Bits) = Cert.KernelIdeal.defs (F := Bits) :=
  congrArg (Pipeline.defs Cert.KernelIdeal.pcfgs) same_defs₀

/-- The frame of the kernel over machine words: the two programs have the same text. -/
theorem frame_kernel : Cert.quiescent_Kernel := fun m ρ _ => by
  rw [same_defs]
  exact frame_any (F := Bits) m ρ

/-- The frame of the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.KProof

end
-- ==== Proof.Ranks.lean ====
/-
# What the kernel computes from the routes

Each token's rank among the tokens of its expert, the slot it takes in its expert's block, and the words the kernel keeps them in.
-/
module

public import proofs.«01_k».proof.Proof.Gen.KernelIdeal.Skeleton
public import Idealize.ShloMosaic.Lib.Pointwise
public import Idealize.ShloMosaic.Lib.WordCmp

@[expose] public section

noncomputable section

namespace Cert.KProof

open Idealize.ShloMosaic Idealize.ShloMosaic.WordCmp
open Cert.KernelIdeal Cert.KernelIdeal.Gen

/-! ## Words and extended reals -/

/-- A truth value as an extended real. -/
def ind (p : Prop) [Decidable p] : EReal := if p then 1 else 0

/-- A truth value, widened and converted, is one or zero. -/
theorem sitofp_bit (p : Prop) [Decidable p] :
    FloatOps.sitofp (F := Ideal) FTy.f32 (BitVec.setWidth 32 (BitVec.ofBool (decide p))) = ind p := by
  unfold ind
  by_cases h : p
  · rw [if_pos h, decide_eq_true h]
    show (((BitVec.setWidth 32 (BitVec.ofBool true)).toInt : ℝ) : EReal) = 1
    rw [show (BitVec.setWidth 32 (BitVec.ofBool true)).toInt = 1 from by decide]; simp
  · rw [if_neg h, decide_eq_false h]
    show (((BitVec.setWidth 32 (BitVec.ofBool false)).toInt : ℝ) : EReal) = 0
    rw [show (BitVec.setWidth 32 (BitVec.ofBool false)).toInt = 0 from by decide]; simp

/-- A small natural, converted back to a word. -/
theorem fptosi_nat (n : ℕ) (h : n < 2 ^ 31) : FloatOps.fptosi (F := Ideal) (φ := FTy.f32) 32 (n : EReal) = BitVec.ofNat 32 n := by
  show Ideal.fptosi 32 (n : EReal) = _
  rw [show (n : EReal) = (((n : ℕ) : ℝ) : EReal) from rfl, Ideal.fptosi, Ideal.toIntClamped_coe, if_pos (Nat.cast_nonneg n), Int.floor_natCast,
    min_eq_right (by push_cast; omega), max_eq_right (by push_cast; omega), BitVec.ofInt_natCast]

/-- A sum of terms each kept or dropped by a test that one index alone passes is that index's term. -/
theorem sum_pick {n : ℕ} (P : Fin n → Prop) [DecidablePred P] (f : Fin n → EReal) (i : Fin n) (hi : P i) (hu : ∀ j, P j → j = i) :
    ∑ j, ind (P j) * f j = f i := by
  rw [Finset.sum_eq_single i (fun j _ hj => by rw [ind, if_neg (fun h => hj (hu j h)), zero_mul]) (fun h => absurd (Finset.mem_univ i) h), ind, if_pos hi, one_mul]

/-- A sum of terms none of which is kept is zero. -/
theorem sum_none {n : ℕ} (P : Fin n → Prop) [DecidablePred P] (f : Fin n → EReal) (h : ∀ j, ¬ P j) :
    ∑ j, ind (P j) * f j = 0 :=
  Finset.sum_eq_zero fun j _ => by rw [ind, if_neg (h j), zero_mul]

/-! ## Ranks -/

/-- The rank of token `i` among the tokens of its expert, from one. -/
def rank (e : Fin 256 → Fin 32) (i : Fin 256) : ℕ := (Finset.univ.filter fun j : Fin 256 => j ≤ i ∧ e j = e i).card

variable (e : Fin 256 → Fin 32)

theorem rank_pos (i : Fin 256) : 1 ≤ rank e i := Finset.card_pos.2 ⟨i, Finset.mem_filter.2 ⟨Finset.mem_univ _, le_refl _, rfl⟩⟩

theorem rank_le (i : Fin 256) : rank e i ≤ 256 := (Finset.card_le_univ _).trans (by simp)

/-- Of two tokens of one expert the later has the larger rank. -/
theorem rank_lt {i j : Fin 256} (he : e i = e j) (h : i < j) : rank e i < rank e j := by
  refine Finset.card_lt_card ((Finset.ssubset_iff_of_subset fun k hk => ?_).2 ⟨j, ?_, ?_⟩)
  · obtain ⟨-, h₁, h₂⟩ := Finset.mem_filter.1 hk
    exact Finset.mem_filter.2 ⟨Finset.mem_univ _, h₁.trans h.le, h₂.trans he⟩
  · exact Finset.mem_filter.2 ⟨Finset.mem_univ _, le_refl _, rfl⟩
  · exact fun hk => absurd (Finset.mem_filter.1 hk).2.1 (not_le.2 h)

/-- Tokens of one expert and one rank are one token. -/
theorem rank_inj {i j : Fin 256} (he : e i = e j) (h : rank e i = rank e j) : i = j := by
  rcases lt_trichotomy i j with hlt | heq | hlt
  · exact absurd h (rank_lt e he hlt).ne
  · exact heq
  · exact absurd h (rank_lt e he.symm hlt).ne'

variable {e} {r : Vec Ideal S256x1 .i32} (hr : ∀ i : Fin 256, r (ix2 i 0) = BitVec.ofNat 32 (e i).val)

include hr

/-- The kernel's count of token `i` is its rank. -/
theorem rank_word (i : Fin 256) : k0_pay2 (F := Ideal) r (ix2 i 0) = BitVec.ofNat 32 (rank e i) := by
  pointwise [k0_pay2, k0_pay1]
  rw [← fptosi_nat (rank e i) (by have := rank_le e i; omega)]
  refine congrArg _ ?_
  have hhot : ∀ (j : Fin 256) (x : Fin 32), FloatOps.sitofp (F := Ideal) FTy.f32 (BitVec.setWidth 32 (IntOp.cmpi CmpIPredicate.eq (r (ix2 j 0)) (BitVec.ofNat 32 x.val)))
      = ind (x = e j) := by
    intro j x
    rw [← sitofp_bit, hr]
    word_cmp
    rw [show decide ((e j).val = x.val) = decide (x = e j) from decide_eq_decide.2 ⟨fun h => Fin.ext h.symm, fun h => (congrArg Fin.val h).symm⟩]
  have htri : ∀ j : Fin 256, FloatOps.sitofp (F := Ideal) FTy.f32 (BitVec.setWidth 32 (IntOp.cmpi CmpIPredicate.sge (BitVec.ofNat 32 i.val) (BitVec.ofNat 32 j.val)))
      = ind (j ≤ i) := by
    intro j
    rw [← sitofp_bit]
    word_cmp
    rfl
  simp only [hhot, htri]
  rw [sum_pick (fun x => x = e i) _ (e i) rfl (fun _ h => h), rank, Finset.card_filter]
  push_cast
  refine Finset.sum_congr rfl fun j _ => ?_
  unfold ind
  by_cases h₁ : j ≤ i <;> by_cases h₂ : e j = e i <;> simp [h₁, h₂, Ne.symm, eq_comm (a := e i)]

/-- The kernel's floor division of a route by two. -/
theorem half_word (i : Fin 256) : k0_pay6 r (ix2 i 0) = BitVec.ofNat 32 ((e i).val / 2) := by
  pointwise [k0_pay6]
  rw [hr]
  generalize e i = k
  revert k
  decide

theorem odd_word (i : Fin 256) : k0_pay7 r (ix2 i 0) = BitVec.ofNat 32 ((e i).val % 2) := by
  have h := half_word hr i
  pointwise [k0_pay7]
  rw [h, hr]
  generalize e i = k
  revert k
  decide

theorem base_word (i : Fin 256) : k0_pay8 r (ix2 i 0) = BitVec.ofNat 32 (16 * ((e i).val / 2)) := by
  have h := half_word hr i
  pointwise [k0_pay8]
  rw [h]
  generalize e i = k
  revert k
  decide

omit hr in
/-- The word a device keeps of a token: its slot when the device owns its expert and its rank is at most six. -/
theorem slot_word (k n D s : ℕ) (hk : k < 32) (hn : 1 ≤ n) (hn' : n ≤ 256) (hD : D < 16) (hs : s < 16) :
    IntOp.cmpi .eq (Scalar.select (IntOp.andi (IntOp.andi (IntOp.cmpi .sge (BitVec.ofNat 32 k) (Scalar.muli (BitVec.ofNat 32 D) 2#32))
        (IntOp.cmpi .sle (BitVec.ofNat 32 k) (Scalar.addi (Scalar.muli (BitVec.ofNat 32 D) 2#32) 1#32))) (IntOp.cmpi .sle (BitVec.ofNat 32 n) 6#32))
      (IntOp.subi (IntOp.addi (IntOp.muli (IntOp.subi (BitVec.ofNat 32 k) (Scalar.muli (BitVec.ofNat 32 D) 2#32)) 6#32) (BitVec.ofNat 32 n)) 1#32)
      4294967295#32) (BitVec.ofNat 32 s) = BitVec.ofBool (decide (k / 2 = D ∧ n ≤ 6 ∧ 6 * (k % 2) + n - 1 = s)) := by
  have e₁ : Scalar.muli (BitVec.ofNat 32 D) 2#32 = BitVec.ofNat 32 (2 * D) := by
    show BitVec.ofNat 32 D * 2#32 = _
    bv_omega
  have e₂ : Scalar.addi (BitVec.ofNat 32 (2 * D)) 1#32 = BitVec.ofNat 32 (2 * D + 1) := by
    show BitVec.ofNat 32 (2 * D) + 1#32 = _
    bv_omega
  rw [e₁, e₂]
  word_cmp
  refine congrArg BitVec.ofBool (decide_eq_decide.2 ?_)
  by_cases h : (2 * D ≤ k ∧ k ≤ 2 * D + 1) ∧ n ≤ 6
  · have e₃ : IntOp.subi (IntOp.addi (IntOp.muli (IntOp.subi (BitVec.ofNat 32 k) (BitVec.ofNat 32 (2 * D))) 6#32) (BitVec.ofNat 32 n)) 1#32
        = BitVec.ofNat 32 (6 * (k % 2) + n - 1) := by
      show (BitVec.ofNat 32 k - BitVec.ofNat 32 (2 * D)) * 6#32 + BitVec.ofNat 32 n - 1#32 = _
      rcases (show k = 2 * D ∨ k = 2 * D + 1 by omega) with rfl | rfl <;> bv_omega
    rw [if_pos h, e₃, toNat_ofNat_of_lt (by omega)]
    omega
  · rw [if_neg h, show (4294967295#32).toNat = 4294967295 from rfl]
    omega

omit hr in
/-- The word that says which row of the gathered buffer token's result is in, if any. -/
theorem col_word (n d l q : ℕ) (hn : 1 ≤ n) (hn' : n ≤ 256) (hd : d < 16) (hl : l < 2) (hq : q < 256) :
    IntOp.cmpi .eq (Scalar.select (IntOp.cmpi .sle (BitVec.ofNat 32 n) 6#32)
      (IntOp.subi (IntOp.addi (IntOp.addi (BitVec.ofNat 32 (16 * d)) (IntOp.muli (BitVec.ofNat 32 l) 6#32)) (BitVec.ofNat 32 n)) 1#32)
      4294967295#32) (BitVec.ofNat 32 q) = BitVec.ofBool (decide (n ≤ 6 ∧ 16 * d + 6 * l + n - 1 = q)) := by
  word_cmp
  refine congrArg BitVec.ofBool (decide_eq_decide.2 ?_)
  by_cases h : n ≤ 6
  · have e₃ : IntOp.subi (IntOp.addi (IntOp.addi (BitVec.ofNat 32 (16 * d)) (IntOp.muli (BitVec.ofNat 32 l) 6#32)) (BitVec.ofNat 32 n)) 1#32
        = BitVec.ofNat 32 (16 * d + 6 * l + n - 1) := by
      show BitVec.ofNat 32 (16 * d) + BitVec.ofNat 32 l * 6#32 + BitVec.ofNat 32 n - 1#32 = _
      bv_omega
    rw [if_pos h, e₃, toNat_ofNat_of_lt (by omega)]
    omega
  · rw [if_neg h, show (4294967295#32).toNat = 4294967295 from rfl]
    omega

/-! ## Slots -/

/-- Token `j` takes slot `s` of device `D`'s block. -/
def Takes (e : Fin 256 → Fin 32) (D s : ℕ) (j : Fin 256) : Prop :=
  (e j).val / 2 = D ∧ rank e j ≤ 6 ∧ 6 * ((e j).val % 2) + rank e j - 1 = s

instance (e : Fin 256 → Fin 32) (D s : ℕ) : DecidablePred (Takes e D s) := fun j => by unfold Takes; infer_instance

omit hr in
/-- No two tokens take one slot. -/
theorem takes_unique {D s : ℕ} {i j : Fin 256} (hi : Takes e D s i) (hj : Takes e D s j) : j = i := by
  obtain ⟨h₁, h₂, h₃⟩ := hi
  obtain ⟨h₄, h₅, h₆⟩ := hj
  have p₁ := rank_pos e i
  have p₂ := rank_pos e j
  exact rank_inj e (Fin.ext (by omega)) (by omega)

/-- A device's block: each row is the product of the token that takes it with the row's expert. -/
theorem block_at (D : ℕ) (hD : D < 16) (x : Vec Ideal S256x128 .f32) (w w' : Vec Ideal S1x128x256 .f32) (s : Fin 16) (h : Fin 256) :
    k0_pay5 (F := Ideal) (k0_pay4 (F := Ideal) (BitVec.ofNat 32 D) (k0_pay1 r) (k0_pay2 (F := Ideal) r) x w w') (ix2 s h)
      = ∑ k : Fin 128, (∑ j : Fin 256, ind (Takes e D s.val j) * x (ix2 j k)) * (if s.val < 6 then w (ix3 0 k h) else w' (ix3 0 k h)) := by
  have hrank := rank_word hr
  have hhit : ∀ j : Fin 256, FloatOps.sitofp (F := Ideal) FTy.f32 (BitVec.setWidth 32 (IntOp.cmpi .eq (Scalar.select
        (IntOp.andi (IntOp.andi (IntOp.cmpi .sge (r (ix2 j 0)) (Scalar.muli (BitVec.ofNat 32 D) 2#32))
          (IntOp.cmpi .sle (r (ix2 j 0)) (Scalar.addi (Scalar.muli (BitVec.ofNat 32 D) 2#32) 1#32))) (IntOp.cmpi .sle (k0_pay2 (F := Ideal) r (ix2 j 0)) 6#32))
        (IntOp.subi (IntOp.addi (IntOp.muli (IntOp.subi (r (ix2 j 0)) (Scalar.muli (BitVec.ofNat 32 D) 2#32)) 6#32) (k0_pay2 (F := Ideal) r (ix2 j 0))) 1#32)
        4294967295#32) (BitVec.ofNat 32 s.val))) = ind (Takes e D s.val j) := by
    intro j
    rw [hr, hrank, slot_word _ _ D s.val (e j).isLt (rank_pos e j) (rank_le e j) hD s.isLt, sitofp_bit]
    rfl
  pointwise [k0_pay5, k0_pay4, k0_pay3, k0_pay1]
  simp only [hhit]
  word_cmp
  by_cases h6 : s.val < 6
  · simp only [if_pos h6]
  · simp only [if_neg h6]

/-- The row of the selection matrix: which gathered row token `i`'s result is. -/
theorem select_at (i q : Fin 256) :
    k0_pay9 (F := Ideal) (k0_pay2 (F := Ideal) r) (k0_pay3 (k0_pay2 (F := Ideal) r)) (k0_pay7 (k0_pay1 r)) (k0_pay8 (k0_pay1 r)) 6#32 (ix2 i q)
      = ind (rank e i ≤ 6 ∧ 16 * ((e i).val / 2) + 6 * ((e i).val % 2) + rank e i - 1 = q.val) := by
  have h₁ := rank_word hr i
  have hr' : ∀ i : Fin 256, k0_pay1 (F := Ideal) r (ix2 i 0) = BitVec.ofNat 32 (e i).val := fun i => by
    pointwise [k0_pay1]
    exact hr i
  have h₂ := odd_word hr' i
  have h₃ := base_word hr' i
  pointwise [k0_pay9, k0_pay3]
  rw [h₁, h₂, h₃, col_word _ _ _ q.val (rank_pos e i) (rank_le e i) (by have := (e i).isLt; omega) (by omega) q.isLt, sitofp_bit]

end Cert.KProof

end
-- ==== Proof.Out.lean ====
/-
# The kernel's result

What the run leaves in the result array, index by index.
-/
module

public import proofs.«01_k».proof.Proof.Run
public import proofs.«01_k».proof.Proof.Ranks

@[expose] public section

noncomputable section

namespace Cert.KProof

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## What the body reads -/

/-- The staged tokens are the array. -/
theorem xstg_eq (c : Dev nD) : xstg m ρ c = m ((c : Thread nD τ).loc main_arg0) :=
  Memref.read_access_unit_zero (Elt Ideal) main_arg0 (funext fun a => by fin_cases a <;> decide) (fun a => by fin_cases a <;> decide) _

/-- The staged routes are the array. -/
theorem rstg_eq (c : Dev nD) : rstg m ρ c = m ((c : Thread nD τ).loc main_arg2) :=
  Memref.read_access_unit_zero (Elt Ideal) main_arg2 (funext fun a => by fin_cases a <;> decide) (fun a => by fin_cases a <;> decide) _

/-- The staged weights are the device's array. -/
theorem wstg_eq (c : Dev nD) : wstg m ρ c = m ((c : Thread nD τ).loc main_arg3) :=
  Memref.read_access_unit_zero (Elt Ideal) main_arg3 (funext fun a => by fin_cases a <;> decide) (fun a => by fin_cases a <;> decide) _

/-- The first expert's weights. -/
theorem first_eq (c : Dev nD) (k : Fin 128) (h : Fin 256) :
    (wM : Memref sig .tc .vmem S2x128x256 .f32).view.readAt (Elt Ideal) er0 (wstg m ρ c) (ix3 0 k h) = m ((c : Thread nD τ).loc main_arg3) (ix3 0 k h) := by
  rw [wstg_eq]
  refine congrArg (m ((c : Thread nD τ).loc main_arg3)) (funext fun a => Fin.ext ?_)
  match a with
  | ⟨0, _⟩ => rfl
  | ⟨1, _⟩ => show 0 + 1 * k.val = k.val; omega
  | ⟨2, _⟩ => show 0 + 1 * h.val = h.val; omega

/-- The second expert's weights. -/
theorem second_eq (c : Dev nD) (k : Fin 128) (h : Fin 256) :
    (wM : Memref sig .tc .vmem S2x128x256 .f32).view.readAt (Elt Ideal) er1 (wstg m ρ c) (ix3 0 k h) = m ((c : Thread nD τ).loc main_arg3) (ix3 1 k h) := by
  rw [wstg_eq]
  refine congrArg (m ((c : Thread nD τ).loc main_arg3)) (funext fun a => Fin.ext ?_)
  match a with
  | ⟨0, _⟩ => rfl
  | ⟨1, _⟩ => show 0 + 1 * k.val = k.val; omega
  | ⟨2, _⟩ => show 0 + 1 * h.val = h.val; omega

/-- A device's place in the ring is its number. -/
theorem ringPos_eq (c : Dev nD) : ringPos c = BitVec.ofNat 32 c.val := by
  revert c
  decide

/-! ## What the run leaves -/

/-- The result array's one block, all of it, is what the body left. -/
theorem final_block (c : Dev nD) : (win0_3.blk (0 : Fin 1)).view.read (Elt Ideal) (finalA m ρ c (3 : Fin 4)) = outAt m ρ c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 _, if_pos rfl]
  exact View.read_write_univ _ _

/-- The result array ends at what the body left. -/
theorem result_eq (c : Dev nD) : finalA m ρ c (3 : Fin 4) = outAt m ρ c :=
  (Memref.read_access_unit_zero (Elt Ideal) main_v1 (funext fun a => by fin_cases a <;> decide) (fun a => by fin_cases a <;> decide) _).symm.trans (final_block m ρ c)

/-! ## The result, index by index -/

/-- The tokens and routes every device holds, and the weights cut over the devices, two experts each. -/
structure Holds (X : Fin 256 → Fin 128 → EReal) (e : Fin 256 → Fin 32) (W : Fin 32 → Fin 128 → Fin 256 → EReal) : Prop where
  tokens : ∀ (c : Dev nD) (j : Fin 256) (k : Fin 128), m ((c : Thread nD τ).loc main_arg0) (ix2 j k) = X j k
  routes : ∀ (c : Dev nD) (j : Fin 256), m ((c : Thread nD τ).loc main_arg2) (ix2 j 0) = BitVec.ofNat 32 (e j).val
  weights : ∀ (c : Dev nD) (l : Fin 2) (x : Fin 32) (k : Fin 128) (h : Fin 256), x.val = 2 * c.val + l.val → m ((c : Thread nD τ).loc main_arg3) (ix3 l k h) = W x k h

variable {m} {X : Fin 256 → Fin 128 → EReal} {e : Fin 256 → Fin 32} {W : Fin 32 → Fin 128 → Fin 256 → EReal} (H : Holds m X e W)

include H

/-- A row of the gathered buffer that token `i` takes is the token's product with its expert. -/
theorem gath_at (i q h : Fin 256) (h6 : rank e i ≤ 6) (hq : 16 * ((e i).val / 2) + 6 * ((e i).val % 2) + rank e i - 1 = q.val) :
    gath m ρ (ix2 q h) = ∑ k : Fin 128, X i k * W (e i) k h := by
  have p := rank_pos e i
  obtain ⟨s, hs⟩ : ∃ s : Fin 16, s.val = 6 * ((e i).val % 2) + rank e i - 1 := ⟨⟨6 * ((e i).val % 2) + rank e i - 1, by omega⟩, rfl⟩
  obtain ⟨D, hD⟩ : ∃ D : Dev nD, D.val = (e i).val / 2 := ⟨⟨(e i).val / 2, by have := (e i).isLt; show _ < 16; omega⟩, rfl⟩
  have hdev : rowDev (ix2 q h) = D := Fin.ext (by show q.val / 16 = D.val; omega)
  have hrow : rowIn (ix2 q h) = ix2 s h := funext fun a => by
    match a with
    | ⟨0, _⟩ => exact Fin.ext (by show q.val % 16 = s.val; omega)
    | ⟨1, _⟩ => rfl
  show blob m ρ (rowDev (ix2 q h)) (rowIn (ix2 q h)) = _
  rw [hdev, hrow, blob, ringPos_eq, block_at (e := e) (fun j => by rw [rstg_eq]; exact H.routes D j) D.val D.isLt]
  refine Finset.sum_congr rfl fun k _ => ?_
  have ht : Takes e D.val s.val i := ⟨hD.symm, h6, hs.symm⟩
  rw [sum_pick _ _ i ht (fun j hj => takes_unique ht hj), xstg_eq, H.tokens]
  refine congrArg (X i k * ·) ?_
  by_cases hl : s.val < 6
  · rw [if_pos hl, first_eq, H.weights D 0 (e i) k h (by show _ = 2 * D.val + 0; omega)]
  · rw [if_neg hl, second_eq, H.weights D 1 (e i) k h (by show _ = 2 * D.val + 1; omega)]

/-- The kernel's result: a token's product with its expert when the expert has room for it, else zero. -/
theorem out_at (c : Dev nD) (i h : Fin 256) :
    outAt m ρ c (ix2 i h) = if rank e i ≤ 6 then ∑ k : Fin 128, X i k * W (e i) k h else 0 := by
  have hr : ∀ j : Fin 256, rstg m ρ c (ix2 j 0) = BitVec.ofNat 32 (e j).val := fun j => by rw [rstg_eq]; exact H.routes c j
  have hsel := select_at hr i
  unfold outAt
  pointwise [k0_pay10]
  simp only [hsel]
  have p := rank_pos e i
  by_cases h6 : rank e i ≤ 6
  · obtain ⟨q, hq⟩ : ∃ q : Fin 256, q.val = 16 * ((e i).val / 2) + 6 * ((e i).val % 2) + rank e i - 1 :=
      ⟨⟨16 * ((e i).val / 2) + 6 * ((e i).val % 2) + rank e i - 1, by have := (e i).isLt; omega⟩, rfl⟩
    rw [if_pos h6, sum_pick _ _ q ⟨h6, hq.symm⟩ (fun j hj => Fin.ext (by omega)), gath_at ρ H i q h h6 hq.symm]
  · rw [if_neg h6]
    exact sum_none _ _ fun q hq => h6 hq.1

end Cert.KProof

end
-- ==== Proof.Ref.lean ====
/-
# What the reference computes

The reference's result, index by index, where every route names an expert: a token among the first six of its expert has its product
with that expert's matrix, a later one has zero.
-/
module

public import proofs.«01_k».proof.Proof.Gen.ReferenceIdeal.Run
public import proofs.«01_k».proof.Proof.Ranks
public import Idealize.ShloMosaic.Lib.Pointwise
public import Idealize.ShloMosaic.Lib.WordCmp
public import Idealize.ShloMosaic.Lib.IndicatorCount
public import Idealize.ShloMosaic.Lib.StableHlo.Predicate

@[expose] public section

noncomputable section

namespace Cert.KProof

open Idealize.ShloMosaic Idealize.ShloMosaic.WordCmp
open Cert.ReferenceIdeal Cert.ReferenceIdeal.Gen

/-- The row of the experts' matrices each token reads: its route, a negative one counted from the end. -/
def rowOf (r : IVec S256x1 32) : IVec S256x1 32 :=
  broadcastInDim S256x1 ![0] bcast_S256_S256x1_0 (select (cmpi .slt (shapeCast S256 r shapeCasts_S256x1_S256) (broadcastInDim S256 ![] bcast_S_S256 (constantI S_ 32 0#32))) (addi (shapeCast S256 r shapeCasts_S256x1_S256) (broadcastInDim S256 ![] bcast_S_S256 (constantI S_ 32 32#32))) (shapeCast S256 r shapeCasts_S256x1_S256))

/-- The reference's result as a function of its arguments. -/
def refAt (x : FVec Ideal S256x128 .f32) (r : IVec S256x1 32) (w : FVec Ideal S32x128x256 .f32) : FVec Ideal S256x256 .f32 :=
  select (broadcastInDim S256x256 ![0, 1] bcast_S256x1_S256x256_0_1 (broadcastInDim S256x1 ![0] bcast_S256_S256x1_0 (cmpi .slt (Host.reduce IntOp.addi (extui 32 (andi (cmpi .eq (broadcastInDim S256x256 ![0, 1] bcast_S256x1_S256x256_0_1 (broadcastInDim S256x1 ![0] bcast_S256_S256x1_0 (shapeCast S256 r shapeCasts_S256x1_S256))) (broadcastInDim S256x256 ![0, 1] bcast_S1x256_S256x256_0_1 (broadcastInDim S1x256 ![1] bcast_S256_S1x256_1 (shapeCast S256 r shapeCasts_S256x1_S256)))) (cmpi .slt (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0))))) natLt_1_32) (constantI S_ 32 0#32) reducesTo_S256x256_S256_d1 h_S_) (broadcastInDim S256 ![] bcast_S_S256 (constantI S_ 32 6#32))))) (Host.dotGeneral dot_S256x128_S256x128x256_S256x256_1_1_n_2_0_0 none x (Host.gather gather_S32x128x256_S256x1_S256x128x256_12_0_n_n_0_1_1128256 w (rowOf r))) (broadcastInDim S256x256 ![] bcast_S_S256x256 (id (constant S_ .f32 0x00000000#32)))

/-- The earlier tokens of a token's expert are one fewer than its rank. -/
theorem earlier_card (e : Fin 256 → Fin 32) (i : Fin 256) : (Finset.univ.filter fun j : Fin 256 => e i = e j ∧ j < i).card + 1 = rank e i := by
  unfold rank
  rw [← Finset.card_insert_of_notMem (s := Finset.univ.filter fun j : Fin 256 => e i = e j ∧ j < i) (a := i) (by simp)]
  congr 1
  ext j
  simp only [Finset.mem_insert, Finset.mem_filter, Finset.mem_univ, true_and]
  constructor
  · rintro (rfl | ⟨h₁, h₂⟩)
    · exact ⟨le_refl _, rfl⟩
    · exact ⟨h₂.le, h₁.symm⟩
  · rintro ⟨h₁, h₂⟩
    rcases h₁.eq_or_lt with h | h
    · exact Or.inl h
    · exact Or.inr ⟨h₂.symm, h⟩

variable {e : Fin 256 → Fin 32} {r : IVec S256x1 32} (hr : ∀ i : Fin 256, r (ix2 i 0) = BitVec.ofNat 32 (e i).val)
include hr

/-- A route that names an expert is its own row. -/
theorem rowOf_at (i : Fin 256) : rowOf r (ix2 i 0) = BitVec.ofNat 32 (e i).val := by
  pointwise [rowOf]
  rw [hr]
  generalize e i = k
  revert k
  decide

/-- The gather reads a token's rows from its expert's matrix. -/
theorem gather_at (w : FVec Ideal S32x128x256 .f32) (i : Fin 256) (k : Fin 128) (h : Fin 256) :
    Host.gather gather_S32x128x256_S256x1_S256x128x256_12_0_n_n_0_1_1128256 w (rowOf r) (ix3 i k h) = w (ix3 (e i) k h) := by
  unfold Host.gather
  refine congrArg w (funext fun a => Fin.ext ?_)
  have hs : gather_S32x128x256_S256x1_S256x128x256_12_0_n_n_0_1_1128256.siIdx (ix3 i k h) ⟨0, by decide⟩ = ix2 i 0 := by
    funext b
    match b with
    | ⟨0, _⟩ => rfl
    | ⟨1, _⟩ => rfl
  match a with
  | ⟨0, _⟩ =>
    show min (rowOf r (gather_S32x128x256_S256x1_S256x128x256_12_0_n_n_0_1_1128256.siIdx (ix3 i k h) ⟨0, _⟩)).toInt.toNat 31 = (e i).val
    rw [hs, rowOf_at hr]
    generalize e i = k
    revert k
    decide
  | ⟨1, _⟩ => exact Nat.zero_add _
  | ⟨2, _⟩ => exact Nat.zero_add _

/-- The bit the reference sums for a pair of tokens. -/
theorem pair_bit (i j : Fin 256) :
    IntOp.andi (IntOp.cmpi .eq (r (ix2 i 0)) (r (ix2 j 0))) (IntOp.cmpi .slt (BitVec.ofNat 32 j.val) (BitVec.ofNat 32 i.val))
      = BitVec.ofBool (decide (e i = e j ∧ j < i)) := by
  rw [hr, hr]
  word_cmp
  rw [← Bool.decide_and]
  exact congrArg BitVec.ofBool (decide_eq_decide.2 (and_congr Fin.ext_iff.symm Iff.rfl))

/-- The reference's result, index by index. -/
theorem ref_at (x : FVec Ideal S256x128 .f32) (w : FVec Ideal S32x128x256 .f32) (i h : Fin 256) :
    refAt x r w (ix2 i h) = if rank e i ≤ 6 then ∑ k : Fin 128, x (ix2 i k) * w (ix3 (e i) k h) else 0 := by
  pointwise [refAt]
  simp only [gather_at hr, pair_bit hr]
  have hc := earlier_card e i
  have hl := rank_le e i
  rw [Idealize.ShloMosaic.IndicatorCount.fold_addi_setWidth_eq_card,
    show (Finset.univ.filter fun j : Fin 256 => BitVec.ofBool (decide (e i = e j ∧ j < i)) = 1#1) = Finset.univ.filter fun j : Fin 256 => e i = e j ∧ j < i from
      Finset.filter_congr fun j _ => by rw [StableHlo.Predicate.ofBool_eq_one_iff, decide_eq_true_eq]]
  have hz : id (constant (F := Ideal) S_ FTy.f32 0#32) ix0 = (0 : EReal) := by
    show constant (F := Ideal) S_ FTy.f32 0#32 ix0 = (0 : EReal)
    pointwise []
  by_cases h6 : rank e i ≤ 6
  · rw [if_pos h6, (StableHlo.Predicate.slt_iff_toNat (by rw [BitVec.toNat_ofNat]; omega) (by decide)).2 (by rw [BitVec.toNat_ofNat]; show _ < 6; omega)]
    rfl
  · rw [if_neg h6, ← hz]
    have hn : IntOp.cmpi .slt (BitVec.ofNat 32 (Finset.univ.filter fun j : Fin 256 => e i = e j ∧ j < i).card) 6#32 ≠ 1#1 := fun h => by
      have := (StableHlo.Predicate.slt_iff_toNat (by rw [BitVec.toNat_ofNat]; omega) (by decide)).1 h
      rw [BitVec.toNat_ofNat] at this
      change _ < 6 at this
      omega
    exact if_neg hn

end Cert.KProof

end
-- ==== Proof.Algebra.lean ====
/-
# The kernel computes the reference

Where every route names an expert, every device ends with the reference's result.
-/
module

public import proofs.«01_k».proof.Proof.Frames
public import proofs.«01_k».proof.Proof.Out
public import proofs.«01_k».proof.Proof.Ref
public import Idealize.ShloMosaic.Lib.ReduceAll
public import Idealize.ShloMosaic.Lib.LayoutAt

@[expose] public section

noncomputable section

namespace Cert.KProof

open Idealize.ShloMosaic Idealize.ShloMosaic.TcCoe Idealize.SL.Sem

/-- The side conditions of the precondition as the kernel reads it. -/
instance pre_facts : Cert.Pre_routed_KernelIdeal.Facts where
  bcast_S_S256x1 := by decide
  reducesTo_S256x1_S_d0_1 := by decide
  h_S_ := by decide

/-- The side conditions of the precondition as the reference reads it. -/
instance pre_facts_reference : Cert.Pre_routed_ReferenceIdeal.Facts where
  bcast_S_S256x1 := by decide
  reducesTo_S256x1_S_d0_1 := by decide
  h_S_ := by decide

/-- A word between zero and 32, read signed, is one of the 32 small ones. -/
theorem route_of_bit (a : BitVec 32) (h : IntOp.andi (IntOp.cmpi .sge a 0#32) (IntOp.cmpi .slt a 32#32) = 1#1) : a.toNat < 32 := by
  obtain ⟨h₁, h₂⟩ := IntOp.andi_eq_one.1 h
  have h₁' : (0#32).sle a = true := (StableHlo.Predicate.ofBool_eq_one_iff _).1 h₁
  have h₂' : a.slt 32#32 = true := (StableHlo.Predicate.ofBool_eq_one_iff _).1 h₂
  rw [BitVec.sle_eq_decide, decide_eq_true_eq, show (0#32).toInt = 0 from by decide] at h₁'
  rw [BitVec.slt_eq_decide, decide_eq_true_eq, show (32#32).toInt = 32 from by decide] at h₂'
  have hlt := a.isLt
  rw [BitVec.toInt_eq_toNat_cond] at h₁' h₂'
  split at h₁' <;> split at h₂' <;> omega

/-- Where the precondition holds every route names an expert. -/
theorem routes_of_pre (x0 x1) (r : IVec ⟨2, ![256, 1]⟩ 32) (x3) (h : Cert.Pre_routed_KernelIdeal.fn (F := Ideal) x0 x1 r x3 = fun _ => 1#1) :
    ∃ e : Fin 256 → Fin 32, ∀ i : Fin 256, r (ix2 i 0) = BitVec.ofNat 32 (e i).val := by
  have hb : ∀ i : Fin 256, (r (ix2 i 0)).toNat < 32 := fun i =>
    route_of_bit _ (Host.reduce_andi_all _ _ _ _ ix0 (congrFun h ix0) (ix2 i 0))
  exact ⟨fun i => ⟨_, hb i⟩, fun i => by simp⟩

section
open Cert.KernelIdeal Cert.KernelIdeal.Gen

/-- Device `c`'s two matrices are the whole array's rows `2 c` and `2 c + 1`. -/
theorem weights_at (W : FVec Ideal ⟨3, ![32, 128, 256]⟩ .f32) (w : FVec Ideal ⟨3, ![2, 128, 256]⟩ .f32) (c : Fin 16)
    (hw : w = Layout.block ⟨3, ![2, 128, 256]⟩ ⟨3, ![32, 128, 256]⟩ 0 16 c W) (l : Fin 2) (x : Fin 32) (k : Fin 128) (h : Fin 256)
    (hx : x.val = 2 * c.val + l.val) : w (ix3 l k h) = W (ix3 x k h) := by
  subst hw
  shard_ext

end

/-- Every device of the kernel ends with the reference's result, the arguments of both unchanged. -/
theorem algebraic : Cert.algebraic_KernelIdeal_ReferenceIdeal_pre_routed_KernelIdeal := by
  intro m g m' g' hpre hin
  have hrun := run_main (F := Ideal) m g
  obtain ⟨e, he⟩ := routes_of_pre _ _ _ _ (hpre 0)
  have hr : ∀ i : Fin 256, m' (((0 : Dev Cert.ReferenceIdeal.nD).tc : Thread Cert.ReferenceIdeal.nD Cert.ReferenceIdeal.τ).loc Cert.ReferenceIdeal.main_arg2) (ix2 i 0)
      = BitVec.ofNat 32 (e i).val := fun i => (congrFun (hin 0).2.2.1 (ix2 i 0)).symm.trans (he i)
  have H : Holds m (fun j k => m' (((0 : Dev Cert.ReferenceIdeal.nD).tc : Thread Cert.ReferenceIdeal.nD Cert.ReferenceIdeal.τ).loc Cert.ReferenceIdeal.main_arg0) (ix2 j k)) e
      (fun x k h => m' (((0 : Dev Cert.ReferenceIdeal.nD).tc : Thread Cert.ReferenceIdeal.nD Cert.ReferenceIdeal.τ).loc Cert.ReferenceIdeal.main_arg3) (ix3 x k h)) :=
    { tokens := fun c j k => congrFun (hin c).1 (ix2 j k)
      routes := fun c j => (congrFun (hin c).2.2.1 (ix2 j 0)).trans (hr j)
      weights := fun c l x k h hx => weights_at _ _ c (hin c).2.2.2 l x k h hx }
  have hv : ∀ c, outAt m g c = refAt (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) := fun c => by
    funext j
    obtain ⟨i, h, rfl⟩ : ∃ (i h : Fin 256), j = ix2 i h := ⟨j 0, j 1, by funext b; match b with | ⟨0, _⟩ => rfl | ⟨1, _⟩ => rfl⟩
    exact (out_at g H c i h).trans (ref_at hr _ _ i h).symm
  refine ⟨_, (θ_run Cert.KernelIdeal.defs _ _).mono (fun r h c => ⟨(((h.1 c).1 (3 : Fin 4)).trans (result_eq m g c)).trans (hv c), args_of_run m g h.1 c⟩) hrun,
    (θ_run Cert.ReferenceIdeal.defs _ _).mono (fun r h => ⟨(h 0).1, (h 0).2⟩) (Cert.ReferenceIdeal.Value.run (F := Ideal) m' g')⟩

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The three frames (with and without the precondition), the idealization, and the equality with the reference. -/
theorem claim : Cert.Claim :=
  ⟨Cert.Kernel.Gen.facts, Cert.KernelIdeal.Gen.facts, Cert.ReferenceIdeal.Gen.facts, Cert.KProof.pre_facts, Cert.KProof.pre_facts_reference,
    Cert.KProof.frame_kernel, Cert.KProof.frame_ideal, fun m g _ => Cert.KProof.frame_ideal m g trivial, Cert.KProof.frame_reference,
    fun m g _ => Cert.KProof.frame_reference m g trivial, trivial, Cert.KProof.algebraic⟩

end Cert.Proof

end
